-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_vary [hPre_rows_vary : Cert.Pre_rows_vary.Facts] (m : (ℓ : Loc Cert.KernelIdeal.nD Cert.KernelIdeal.τ Cert.KernelIdeal.sig) → Buf (Elt Ideal) ℓ) : Prop :=
  ∀ c : Dev Cert.KernelIdeal.nD,
    (Cert.Pre_rows_vary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_vary [hPre_rows_vary : Cert.Pre_rows_vary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_vary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_rows_vary [hKernelIdeal : Cert.KernelIdeal.Facts] [hPre_rows_vary : Cert.Pre_rows_vary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_vary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_rows_vary [hReferenceIdeal : Cert.ReferenceIdeal.Facts] [hPre_rows_vary : Cert.Pre_rows_vary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_vary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "knot1" .f32 0x3D579436#32 ((1 / 19 : ℝ) : EReal)
  ∧ IdealRules.named_const.Statement Cert.KernelIdeal.κ "knot2" .f32 0x3DD79436#32 ((2 / 19 : ℝ) : EReal)
  ∧ IdealRules.named_const.Statement Cert.KernelIdeal.κ "knot3" .f32 0x3E21AF28#32 ((3 / 19 : ℝ) : EReal)
  ∧ IdealRules.named_const.Statement Cert.KernelIdeal.κ "knot4" .f32 0x3E579436#32 ((4 / 19 : ℝ) : EReal)
  ∧ IdealRules.named_const.Statement Cert.KernelIdeal.κ "knot5" .f32 0x3E86BCA2#32 ((5 / 19 : ℝ) : EReal)
  ∧ IdealRules.named_const.Statement Cert.KernelIdeal.κ "knot6" .f32 0x3EA1AF28#32 ((6 / 19 : ℝ) : EReal)
  ∧ IdealRules.named_const.Statement Cert.KernelIdeal.κ "knot7" .f32 0x3EBCA1AF#32 ((7 / 19 : ℝ) : EReal)
  ∧ IdealRules.named_const.Statement Cert.KernelIdeal.κ "knot8" .f32 0x3ED79436#32 ((8 / 19 : ℝ) : EReal)
  ∧ IdealRules.named_const.Statement Cert.KernelIdeal.κ "knot9" .f32 0x3EF286BD#32 ((9 / 19 : ℝ) : EReal)
  ∧ IdealRules.named_const.Statement Cert.KernelIdeal.κ "knot10" .f32 0x3F06BCA2#32 ((10 / 19 : ℝ) : EReal)
  ∧ IdealRules.named_const.Statement Cert.KernelIdeal.κ "knot11" .f32 0x3F1435E5#32 ((11 / 19 : ℝ) : EReal)
  ∧ IdealRules.named_const.Statement Cert.KernelIdeal.κ "knot12" .f32 0x3F21AF28#32 ((12 / 19 : ℝ) : EReal)
  ∧ IdealRules.named_const.Statement Cert.KernelIdeal.κ "knot13" .f32 0x3F2F286C#32 ((13 / 19 : ℝ) : EReal)
  ∧ IdealRules.named_const.Statement Cert.KernelIdeal.κ "knot14" .f32 0x3F3CA1AF#32 ((14 / 19 : ℝ) : EReal)
  ∧ IdealRules.named_const.Statement Cert.KernelIdeal.κ "knot15" .f32 0x3F4A1AF3#32 ((15 / 19 : ℝ) : EReal)
  ∧ IdealRules.named_const.Statement Cert.KernelIdeal.κ "knot16" .f32 0x3F579436#32 ((16 / 19 : ℝ) : EReal)
  ∧ IdealRules.named_const.Statement Cert.KernelIdeal.κ "knot17" .f32 0x3F650D79#32 ((17 / 19 : ℝ) : EReal)
  ∧ IdealRules.named_const.Statement Cert.KernelIdeal.κ "knot18" .f32 0x3F7286BD#32 ((18 / 19 : ℝ) : EReal)

def algebraic_KernelIdeal_ReferenceIdeal_pre_rows_vary [hKernelIdeal : Cert.KernelIdeal.Facts] [hReferenceIdeal : Cert.ReferenceIdeal.Facts] [hPre_rows_vary : Cert.Pre_rows_vary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_vary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def holds_KernelIdeal_near_reference_pre_rows_vary [hKernelIdeal : Cert.KernelIdeal.Facts] [hPre_rows_vary : Cert.Pre_rows_vary.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_vary m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (r.2.mem ((c.tc : Thread Cert.KernelIdeal.nD Cert.KernelIdeal.τ).loc Cert.KernelIdeal.main_v42))) = (fun _ => 1#1))

def Claim : Prop :=
  ∃ (hKernel : Cert.Kernel.Facts) (hKernelIdeal : Cert.KernelIdeal.Facts) (hReferenceIdeal : Cert.ReferenceIdeal.Facts) (hPre_rows_vary : Cert.Pre_rows_vary.Facts) (hPost_near_reference : Cert.Post_near_reference.Facts),
    quiescent_Kernel (hKernel := hKernel)
    ∧ quiescent_KernelIdeal (hKernelIdeal := hKernelIdeal)
    ∧ quiescent_KernelIdeal_pre_rows_vary (hKernelIdeal := hKernelIdeal) (hPre_rows_vary := hPre_rows_vary)
    ∧ quiescent_ReferenceIdeal (hReferenceIdeal := hReferenceIdeal)
    ∧ quiescent_ReferenceIdeal_pre_rows_vary (hReferenceIdeal := hReferenceIdeal) (hPre_rows_vary := hPre_rows_vary)
    ∧ preserves_Kernel_KernelIdeal
    ∧ algebraic_KernelIdeal_ReferenceIdeal_pre_rows_vary (hKernelIdeal := hKernelIdeal) (hReferenceIdeal := hReferenceIdeal) (hPre_rows_vary := hPre_rows_vary)
    ∧ holds_KernelIdeal_near_reference_pre_rows_vary (hKernelIdeal := hKernelIdeal) (hPre_rows_vary := hPre_rows_vary) (hPost_near_reference := hPost_near_reference)
-- ==== Post_near_reference.lean ====
abbrev S4x8 : Shape := ⟨2, ![4, 8]⟩
abbrev S4x250000x8 : Shape := ⟨3, ![4, 250000, 8]⟩
abbrev S8x8 : Shape := ⟨2, ![8, 8]⟩
abbrev S8 : Shape := ⟨1, ![8]⟩
abbrev S8x20 : Shape := ⟨2, ![8, 20]⟩
abbrev S20 : Shape := ⟨1, ![20]⟩
abbrev S8x1 : Shape := ⟨2, ![8, 1]⟩
abbrev S1 : Shape := ⟨1, ![1]⟩
abbrev S4 : Shape := ⟨1, ![4]⟩
abbrev S250000x4 : Shape := ⟨2, ![250000, 4]⟩
abbrev S1x8 : Shape := ⟨2, ![1, 8]⟩
abbrev S4x20 : Shape := ⟨2, ![4, 20]⟩
abbrev S1x20 : Shape := ⟨2, ![1, 20]⟩
abbrev S_ : Shape := ⟨0, ![]⟩
abbrev S4x1 : Shape := ⟨2, ![4, 1]⟩
abbrev S19 : Shape := ⟨1, ![19]⟩
abbrev S1x1x8 : Shape := ⟨3, ![1, 1, 8]⟩
abbrev S4x250000x1 : Shape := ⟨3, ![4, 250000, 1]⟩
abbrev S1x1x1 : Shape := ⟨3, ![1, 1, 1]⟩
abbrev S4x250000 : Shape := ⟨2, ![4, 250000]⟩
abbrev S1x1 : Shape := ⟨2, ![1, 1]⟩
abbrev S1x4x20 : Shape := ⟨3, ![1, 4, 20]⟩
abbrev S250000x4x1 : Shape := ⟨3, ![250000, 4, 1]⟩
abbrev S250000x4x20 : Shape := ⟨3, ![250000, 4, 20]⟩
abbrev S1x1x19 : Shape := ⟨3, ![1, 1, 19]⟩
abbrev S250000x4x19 : Shape := ⟨3, ![250000, 4, 19]⟩
abbrev S4x19 : Shape := ⟨2, ![4, 19]⟩
abbrev S1x4x19 : Shape := ⟨3, ![1, 4, 19]⟩

class Facts : Prop where
  bcast_S8_S1x8_1 : S8.BroadcastsInDim S1x8 (![1] : Fin 1 → Fin S1x8.rank)
  bcast_S1x8_S4x8_0_1 : S1x8.BroadcastsInDim S4x8 (![0, 1] : Fin 2 → Fin S4x8.rank)
  bcast_S20_S1x20_1 : S20.BroadcastsInDim S1x20 (![1] : Fin 1 → Fin S1x20.rank)
  bcast_S1x20_S4x20_0_1 : S1x20.BroadcastsInDim S4x20 (![0, 1] : Fin 2 → Fin S4x20.rank)
  bcast_S_S4 : S_.BroadcastsInDim S4 (![] : Fin 0 → Fin S4.rank)
  bcast_S4_S4x1_0 : S4.BroadcastsInDim S4x1 (![0] : Fin 1 → Fin S4x1.rank)
  bcast_S4x1_S4x20_0_1 : S4x1.BroadcastsInDim S4x20 (![0, 1] : Fin 2 → Fin S4x20.rank)
  bcast_S_S19 : S_.BroadcastsInDim S19 (![] : Fin 0 → Fin S19.rank)
  shapeCasts_S_S1 : S_.ShapeCasts S1
  bcast_S1_S19_0 : S1.BroadcastsInDim S19 (![0] : Fin 1 → Fin S19.rank)
  bcast_S_S1 : S_.BroadcastsInDim S1 (![] : Fin 0 → Fin S1.rank)
  concatenates_S19_S1_S20_d0 : Shape.Concatenates [S19, S1] S20 0
  bcast_S8_S1x1x8_2 : S8.BroadcastsInDim S1x1x8 (![2] : Fin 1 → Fin S1x1x8.rank)
  bcast_S1x1x8_S4x250000x8_0_1_2 : S1x1x8.BroadcastsInDim S4x250000x8 (![0, 1, 2] : Fin 3 → Fin S4x250000x8.rank)
  bcast_S1_S1x1x1_2 : S1.BroadcastsInDim S1x1x1 (![2] : Fin 1 → Fin S1x1x1.rank)
  bcast_S1x1x1_S4x250000x1_0_1_2 : S1x1x1.BroadcastsInDim S4x250000x1 (![0, 1, 2] : Fin 3 → Fin S4x250000x1.rank)
  shapeCasts_S4x250000x1_S4x250000 : S4x250000x1.ShapeCasts S4x250000
  reducesTo_S4x250000_S4_d1 : S4x250000.ReducesTo [1] S4
  h_S_ : 0 < S_.numel
  bcast_S4x1_S4x250000_0_1 : S4x1.BroadcastsInDim S4x250000 (![0, 1] : Fin 2 → Fin S4x250000.rank)
  transposes_S4x250000_S250000x4_1_0 : S4x250000.Transposes [1, 0] S250000x4
  reducesTo_S250000x4_S_d0_1 : S250000x4.ReducesTo [0, 1] S_
  bcast_S_S250000x4 : S_.BroadcastsInDim S250000x4 (![] : Fin 0 → Fin S250000x4.rank)
  bcast_S_S1x1 : S_.BroadcastsInDim S1x1 (![] : Fin 0 → Fin S1x1.rank)
  bcast_S1x1_S250000x4_0_1 : S1x1.BroadcastsInDim S250000x4 (![0, 1] : Fin 2 → Fin S250000x4.rank)
  bcast_S4x20_S1x4x20_1_2 : S4x20.BroadcastsInDim S1x4x20 (![1, 2] : Fin 2 → Fin S1x4x20.rank)
  bcast_S250000x4_S250000x4x1_0_1 : S250000x4.BroadcastsInDim S250000x4x1 (![0, 1] : Fin 2 → Fin S250000x4x1.rank)
  bcast_S1x4x20_S250000x4x20_0_1_2 : S1x4x20.BroadcastsInDim S250000x4x20 (![0, 1, 2] : Fin 3 → Fin S250000x4x20.rank)
  bcast_S250000x4x1_S250000x4x20_0_1_2 : S250000x4x1.BroadcastsInDim S250000x4x20 (![0, 1, 2] : Fin 3 → Fin S250000x4x20.rank)
  natLt_1_32 : 1 < 32
  reducesTo_S250000x4x20_S250000x4_d2 : S250000x4x20.ReducesTo [2] S250000x4
  bcast_S19_S1x1x19_2 : S19.BroadcastsInDim S1x1x19 (![2] : Fin 1 → Fin S1x1x19.rank)
  bcast_S250000x4x1_S250000x4x19_0_1_2 : S250000x4x1.BroadcastsInDim S250000x4x19 (![0, 1, 2] : Fin 3 → Fin S250000x4x19.rank)
  bcast_S1x1x19_S250000x4x19_0_1_2 : S1x1x19.BroadcastsInDim S250000x4x19 (![0, 1, 2] : Fin 3 → Fin S250000x4x19.rank)
  slices_S4x20_S4x19_0_0 : S4x20.Slices ![0, 0] S4x19
  bcast_S4x19_S1x4x19_1_2 : S4x19.BroadcastsInDim S1x4x19 (![1, 2] : Fin 2 → Fin S1x4x19.rank)
  bcast_S1x4x19_S250000x4x19_0_1_2 : S1x4x19.BroadcastsInDim S250000x4x19 (![0, 1, 2] : Fin 3 → Fin S250000x4x19.rank)
  bcast_S_S250000x4x19 : S_.BroadcastsInDim S250000x4x19 (![] : Fin 0 → Fin S250000x4x19.rank)
  reducesTo_S250000x4x19_S250000x4_d2 : S250000x4x19.ReducesTo [2] S250000x4
  slices_S4x20_S4x19_0_1 : S4x20.Slices ![0, 1] S4x19
  dot_S4x8_S8x8_S4x8_1_0_0_1_n_n_wf : DotDims.WF S4x8 S8x8 S4x8 [1] [0] [0] [1] [] []
  dot_S4x8_S8x20_S4x20_1_0_0_1_n_n_wf : DotDims.WF S4x8 S8x20 S4x20 [1] [0] [0] [1] [] []
  dot_S4x250000x8_S8x8_S4x250000x8_2_0_01_1_n_n_wf : DotDims.WF S4x250000x8 S8x8 S4x250000x8 [2] [0] [0, 1] [1] [] []
  dot_S4x250000x8_S8x1_S4x250000x1_2_0_01_1_n_n_wf : DotDims.WF S4x250000x8 S8x1 S4x250000x1 [2] [0] [0, 1] [1] [] []

variable [Facts]

variable {F : FTy → Type} [FloatOps F]
def dot_S4x8_S8x8_S4x8_1_0_0_1_n_n : DotDims S4x8 S8x8 S4x8 where
  lhsContracting := [1]
  rhsContracting := [0]
  lhsNonContracting := [0]
  rhsNonContracting := [1]
  lhsBatch := []
  rhsBatch := []
  wf := dot_S4x8_S8x8_S4x8_1_0_0_1_n_n_wf
def dot_S4x8_S8x20_S4x20_1_0_0_1_n_n : DotDims S4x8 S8x20 S4x20 where
  lhsContracting := [1]
  rhsContracting := [0]
  lhsNonContracting := [0]
  rhsNonContracting := [1]
  lhsBatch := []
  rhsBatch := []
  wf := dot_S4x8_S8x20_S4x20_1_0_0_1_n_n_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def dot_S4x250000x8_S8x8_S4x250000x8_2_0_01_1_n_n : DotDims S4x250000x8 S8x8 S4x250000x8 where
  lhsContracting := [2]
  rhsContracting := [0]
  lhsNonContracting := [0, 1]
  rhsNonContracting := [1]
  lhsBatch := []
  rhsBatch := []
  wf := dot_S4x250000x8_S8x8_S4x250000x8_2_0_01_1_n_n_wf
def dot_S4x250000x8_S8x1_S4x250000x1_2_0_01_1_n_n : DotDims S4x250000x8 S8x1 S4x250000x1 where
  lhsContracting := [2]
  rhsContracting := [0]
  lhsNonContracting := [0, 1]
  rhsNonContracting := [1]
  lhsBatch := []
  rhsBatch := []
  wf := dot_S4x250000x8_S8x1_S4x250000x1_2_0_01_1_n_n_wf

def fn_sort {F : FTy → Type} [FloatOps F] (arg0 : FVec F S4x20 .f32) : FVec F S4x20 .f32 :=
  let v0 : FVec F S4x20 .f32 := (fun x => Host.sort S4x20 1 comparator_f32_d1 x) arg0
  v0

def fn_where {F : FTy → Type} [FloatOps F] (arg0 : IVec S4x1 1) (arg1 : FVec F S4x20 .f32) (arg2 : FVec F S4x20 .f32) : FVec F S4x20 .f32 :=
  let v0 : IVec S4x20 1 := broadcastInDim S4x20 ![0, 1] bcast_S4x1_S4x20_0_1 arg0
  let v1 : FVec F S4x20 .f32 := select v0 arg1 arg2
  v1

def fn_linspace {F : FTy → Type} [FloatOps F] (arg0 : FVec F S_ .f32) (arg1 : FVec F S_ .f32) : FVec F S20 .f32 :=
  let v0 : FVec F S_ .f32 := id arg0
  let v1 : FVec F S_ .f32 := id arg1
  let v2 : FVec F S_ .f32 := subf v1 v0
  let cst : FVec F S_ .f32 := constant S_ .f32 0x41980000#32
  let v3 : FVec F S_ .f32 := Host.divf v2 cst
  let v4 : FVec F S19 .f32 := sitofp .f32 (iotaInDim S19 32 0)
  let cst_0 : FVec F S_ .f32 := constant S_ .f32 0x41980000#32
  let v5 : FVec F S19 .f32 := broadcastInDim S19 ![] bcast_S_S19 cst_0
  let v6 : FVec F S19 .f32 := Host.divf v4 v5
  let v7 : FVec F S1 .f32 := shapeCast S1 v0 shapeCasts_S_S1
  let cst_1 : FVec F S_ .f32 := constant S_ .f32 0x3F800000#32
  let v8 : FVec F S19 .f32 := broadcastInDim S19 ![] bcast_S_S19 cst_1
  let v9 : FVec F S19 .f32 := subf v8 v6
  let v10 : FVec F S19 .f32 := broadcastInDim S19 ![0] bcast_S1_S19_0 v7
  let v11 : FVec F S19 .f32 := mulf v10 v9
  let v12 : FVec F S1 .f32 := shapeCast S1 v1 shapeCasts_S_S1
  let v13 : FVec F S19 .f32 := broadcastInDim S19 ![0] bcast_S1_S19_0 v12
  let v14 : FVec F S19 .f32 := mulf v13 v6
  let v15 : FVec F S19 .f32 := addf v11 v14
  let v16 : FVec F S1 .f32 := broadcastInDim S1 ![] bcast_S_S1 v1
  let v17 : FVec F S20 .f32 := (fun a b => concatenate S20 0 [⟨S19, a⟩, ⟨S1, b⟩] concatenates_S19_S1_S20_d0) v15 v16
  v17

def fn_where_0 {F : FTy → Type} [FloatOps F] (arg0 : IVec S_ 1) (arg1 : FVec F S_ .f32) (arg2 : FVec F S_ .f32) : FVec F S_ .f32 :=
  let v0 : FVec F S_ .f32 := id arg2
  let v1 : FVec F S_ .f32 := select arg0 arg1 v0
  v1

def fn_var {F : FTy → Type} [FloatOps F] (arg0 : FVec F S250000x4 .f32) (arg1 : IVec S_ 32) : FVec F S_ .f32 :=
  let cst : FVec F S_ .f32 := constant S_ .f32 0x00000000#32
  let v0 : FVec F S_ .f32 := (fun x v => Host.reduceAdd x v reducesTo_S250000x4_S_d0_1 h_S_) arg0 cst
  let v1 : FVec F S1x1 .f32 := broadcastInDim S1x1 ![] bcast_S_S1x1 v0
  let cst_0 : FVec F S_ .f32 := constant S_ .f32 0x49742400#32
  let v2 : FVec F S1x1 .f32 := broadcastInDim S1x1 ![] bcast_S_S1x1 cst_0
  let v3 : FVec F S1x1 .f32 := Host.divf v1 v2
  let v4 : FVec F S250000x4 .f32 := broadcastInDim S250000x4 ![0, 1] bcast_S1x1_S250000x4_0_1 v3
  let v5 : FVec F S250000x4 .f32 := subf arg0 v4
  let v6 : FVec F S250000x4 .f32 := mulf v5 v5
  let v7 : FVec F S_ .f32 := sitofp .f32 arg1
  let cst_1 : FVec F S_ .f32 := constant S_ .f32 0x49742400#32
  let v8 : FVec F S_ .f32 := subf cst_1 v7
  let cst_2 : FVec F S_ .f32 := constant S_ .f32 0x00000000#32
  let v9 : FVec F S_ .f32 := (fun x v => Host.reduceAdd x v reducesTo_S250000x4_S_d0_1 h_S_) v6 cst_2
  let v10 : FVec F S_ .f32 := Host.divf v9 v8
  let cst_3 : FVec F S_ .f32 := constant S_ .f32 0x00000000#32
  let v11 : IVec S_ 1 := cmpf .ogt v8 cst_3
  let cst_4 : FVec F S_ .f32 := constant S_ .f32 0x7FC00000#32
  let v12 : FVec F S_ .f32 := fn_where_0 (F := F) v11 v10 cst_4
  v12

def fn_std {F : FTy → Type} [FloatOps F] (arg0 : FVec F S250000x4 .f32) (arg1 : IVec S_ 32) : FVec F S_ .f32 :=
  let v0 : FVec F S_ .f32 := fn_var (F := F) arg0 arg1
  let v1 : FVec F S_ .f32 := Host.sqrt v0
  v1

def fn_clip {F : FTy → Type} [FloatOps F] (arg0 : IVec S250000x4 32) (arg1 : IVec S_ 32) (arg2 : IVec S_ 32) : IVec S250000x4 32 :=
  let v0 : IVec S_ 32 := id arg1
  let v1 : IVec S250000x4 32 := broadcastInDim S250000x4 ![] bcast_S_S250000x4 v0
  let v2 : IVec S250000x4 32 := maxsi v1 arg0
  let v3 : IVec S_ 32 := id arg2
  let v4 : IVec S250000x4 32 := broadcastInDim S250000x4 ![] bcast_S_S250000x4 v3
  let v5 : IVec S250000x4 32 := minsi v4 v2
  v5

def fn_where_1 {F : FTy → Type} [FloatOps F] (arg0 : IVec S250000x4x19 1) (arg1 : FVec F S1x4x19 .f32) (arg2 : FVec F S_ .f32) : FVec F S250000x4x19 .f32 :=
  let v0 : FVec F S250000x4x19 .f32 := broadcastInDim S250000x4x19 ![0, 1, 2] bcast_S1x4x19_S250000x4x19_0_1_2 arg1
  let v1 : FVec F S250000x4x19 .f32 := broadcastInDim S250000x4x19 ![] bcast_S_S250000x4x19 arg2
  let v2 : FVec F S250000x4x19 .f32 := select arg0 v0 v1
  v2

def fn_part5 {F : FTy → Type} [FloatOps F] (main_arg16 : FVec F S250000x4 .f32) (main_v58 : FVec F S250000x4 .f32) (main_v98 : FVec F S250000x4 .f32) : IVec S250000x4 1 :=
  let main_cst_19 : FVec F S_ .f32 := constant S_ .f32 0x3DCCCCCD#32
  let main_v99 : FVec F S250000x4 .f32 := broadcastInDim S250000x4 ![] bcast_S_S250000x4 main_cst_19
  let main_v100 : FVec F S250000x4 .f32 := mulf main_v99 main_v58
  let main_v101 : FVec F S250000x4 .f32 := addf main_v98 main_v100
  let main_cst_20 : FVec F S_ .f32 := constant S_ .f32 0x368637BD#32
  let main_v102 : FVec F S250000x4 .f32 := broadcastInDim S250000x4 ![] bcast_S_S250000x4 main_cst_20
  let main_v103 : FVec F S250000x4 .f32 := addf main_v101 main_v102
  let main_v104 : IVec S250000x4 1 := cmpf .ole main_arg16 main_v103
  let main_cst_21 : FVec F S_ .f32 := constant S_ .f32 0x368637BD#32
  let main_v105 : FVec F S250000x4 .f32 := broadcastInDim S250000x4 ![] bcast_S_S250000x4 main_cst_21
  let main_v106 : FVec F S250000x4 .f32 := addf main_arg16 main_v105
  let main_v107 : IVec S250000x4 1 := cmpf .ole main_v101 main_v106
  let main_v108 : IVec S250000x4 1 := andi main_v104 main_v107
  main_v108

def fn_part4 {F : FTy → Type} [FloatOps F] (main_arg16 : FVec F S250000x4 .f32) (main_v16 : FVec F S4x20 .f32) (main_v39 : FVec F S250000x4 .f32) (main_v58 : FVec F S250000x4 .f32) (main_v74 : IVec S250000x4x19 1) (main_v78 : FVec F S250000x4 .f32) (main_v80 : FVec F S1x4x19 .f32) (main_cst_12 : FVec F S_ .f32) : IVec S250000x4 1 :=
  let main_v81 : FVec F S250000x4x19 .f32 := fn_where_1 (F := F) main_v74 main_v80 main_cst_12
  let main_cst_13 : FVec F S_ .f32 := constant S_ .f32 0x00000000#32
  let main_v82 : FVec F S250000x4 .f32 := (fun x v => Host.reduceAdd x v reducesTo_S250000x4x19_S250000x4_d2 h_S_) main_v81 main_cst_13
  let main_v83 : FVec F S4x19 .f32 := (extractStridedSlice S4x19 ![0, 0] · slices_S4x20_S4x19_0_0) main_v16
  let main_v84 : FVec F S1x4x19 .f32 := broadcastInDim S1x4x19 ![1, 2] bcast_S4x19_S1x4x19_1_2 main_v83
  let main_cst_14 : FVec F S_ .f32 := constant S_ .f32 0x00000000#32
  let main_v85 : FVec F S250000x4x19 .f32 := fn_where_1 (F := F) main_v74 main_v84 main_cst_14
  let main_cst_15 : FVec F S_ .f32 := constant S_ .f32 0x00000000#32
  let main_v86 : FVec F S250000x4 .f32 := (fun x v => Host.reduceAdd x v reducesTo_S250000x4x19_S250000x4_d2 h_S_) main_v85 main_cst_15
  let main_v87 : FVec F S4x19 .f32 := (extractStridedSlice S4x19 ![0, 1] · slices_S4x20_S4x19_0_1) main_v16
  let main_v88 : FVec F S1x4x19 .f32 := broadcastInDim S1x4x19 ![1, 2] bcast_S4x19_S1x4x19_1_2 main_v87
  let main_cst_16 : FVec F S_ .f32 := constant S_ .f32 0x00000000#32
  let main_v89 : FVec F S250000x4x19 .f32 := fn_where_1 (F := F) main_v74 main_v88 main_cst_16
  let main_cst_17 : FVec F S_ .f32 := constant S_ .f32 0x00000000#32
  let main_v90 : FVec F S250000x4 .f32 := (fun x v => Host.reduceAdd x v reducesTo_S250000x4x19_S250000x4_d2 h_S_) main_v89 main_cst_17
  let main_v91 : FVec F S250000x4 .f32 := subf main_v39 main_v78
  let main_v92 : FVec F S250000x4 .f32 := subf main_v90 main_v86
  let main_v93 : FVec F S250000x4 .f32 := mulf main_v91 main_v92
  let main_v94 : FVec F S250000x4 .f32 := subf main_v82 main_v78
  let main_cst_18 : FVec F S_ .f32 := constant S_ .f32 0x33D6BF95#32
  let main_v95 : FVec F S250000x4 .f32 := broadcastInDim S250000x4 ![] bcast_S_S250000x4 main_cst_18
  let main_v96 : FVec F S250000x4 .f32 := addf main_v94 main_v95
  let main_v97 : FVec F S250000x4 .f32 := Host.divf main_v93 main_v96
  let main_v98 : FVec F S250000x4 .f32 := addf main_v86 main_v97
  fn_part5 (F := F) main_arg16 main_v58 main_v98

def fn_part3 {F : FTy → Type} [FloatOps F] (main_arg16 : FVec F S250000x4 .f32) (main_v16 : FVec F S4x20 .f32) (main_v19 : FVec F S4x20 .f32) (main_v39 : FVec F S250000x4 .f32) (main_v58 : FVec F S250000x4 .f32) (main_v63 : IVec S250000x4x20 1) : IVec S250000x4 1 :=
  let main_v64 : IVec S250000x4x20 32 := (extui 32 · natLt_1_32) main_v63
  let main_c_6 : IVec S_ 32 := constantI S_ 32 0#32
  let main_v65 : IVec S250000x4 32 := (fun x v => Host.reduce IntOp.addi x v reducesTo_S250000x4x20_S250000x4_d2 h_S_) main_v64 main_c_6
  let main_c_7 : IVec S_ 32 := constantI S_ 32 1#32
  let main_v66 : IVec S250000x4 32 := broadcastInDim S250000x4 ![] bcast_S_S250000x4 main_c_7
  let main_v67 : IVec S250000x4 32 := subi main_v65 main_v66
  let main_c_8 : IVec S_ 32 := constantI S_ 32 0#32
  let main_c_9 : IVec S_ 32 := constantI S_ 32 18#32
  let main_v68 : IVec S250000x4 32 := fn_clip (F := F) main_v67 main_c_8 main_c_9
  let main_v69 : IVec S250000x4x1 32 := broadcastInDim S250000x4x1 ![0, 1] bcast_S250000x4_S250000x4x1_0_1 main_v68
  let main_v70 : IVec S19 32 := iotaInDim S19 32 0
  let main_v71 : IVec S1x1x19 32 := broadcastInDim S1x1x19 ![2] bcast_S19_S1x1x19_2 main_v70
  let main_v72 : IVec S250000x4x19 32 := broadcastInDim S250000x4x19 ![0, 1, 2] bcast_S250000x4x1_S250000x4x19_0_1_2 main_v69
  let main_v73 : IVec S250000x4x19 32 := broadcastInDim S250000x4x19 ![0, 1, 2] bcast_S1x1x19_S250000x4x19_0_1_2 main_v71
  let main_v74 : IVec S250000x4x19 1 := cmpi .eq main_v72 main_v73
  let main_v75 : FVec F S4x19 .f32 := (extractStridedSlice S4x19 ![0, 0] · slices_S4x20_S4x19_0_0) main_v19
  let main_v76 : FVec F S1x4x19 .f32 := broadcastInDim S1x4x19 ![1, 2] bcast_S4x19_S1x4x19_1_2 main_v75
  let main_cst_10 : FVec F S_ .f32 := constant S_ .f32 0x00000000#32
  let main_v77 : FVec F S250000x4x19 .f32 := fn_where_1 (F := F) main_v74 main_v76 main_cst_10
  let main_cst_11 : FVec F S_ .f32 := constant S_ .f32 0x00000000#32
  let main_v78 : FVec F S250000x4 .f32 := (fun x v => Host.reduceAdd x v reducesTo_S250000x4x19_S250000x4_d2 h_S_) main_v77 main_cst_11
  let main_v79 : FVec F S4x19 .f32 := (extractStridedSlice S4x19 ![0, 1] · slices_S4x20_S4x19_0_1) main_v19
  let main_v80 : FVec F S1x4x19 .f32 := broadcastInDim S1x4x19 ![1, 2] bcast_S4x19_S1x4x19_1_2 main_v79
  let main_cst_12 : FVec F S_ .f32 := constant S_ .f32 0x00000000#32
  fn_part4 (F := F) main_arg16 main_v16 main_v39 main_v58 main_v74 main_v78 main_v80 main_cst_12

def fn_part2 {F : FTy → Type} [FloatOps F] (main_arg13 : FVec F S8x1 .f32) (main_arg14 : FVec F S1 .f32) (main_arg16 : FVec F S250000x4 .f32) (main_v16 : FVec F S4x20 .f32) (main_v19 : FVec F S4x20 .f32) (main_v39 : FVec F S250000x4 .f32) (main_v40 : FVec F S4x250000x8 .f32) (main_v42 : FVec F S4x250000x8 .f32) : IVec S250000x4 1 :=
  let main_v43 : FVec F S4x250000x8 .f32 := addf main_v40 main_v42
  let main_v44 : FVec F S4x250000x8 .f32 := Host.tanh main_v43
  let main_v45 : FVec F S4x250000x1 .f32 := (fun l r => Host.dotGeneral dot_S4x250000x8_S8x1_S4x250000x1_2_0_01_1_n_n none l r) main_v44 main_arg13
  let main_v46 : FVec F S1x1x1 .f32 := broadcastInDim S1x1x1 ![2] bcast_S1_S1x1x1_2 main_arg14
  let main_v47 : FVec F S4x250000x1 .f32 := broadcastInDim S4x250000x1 ![0, 1, 2] bcast_S1x1x1_S4x250000x1_0_1_2 main_v46
  let main_v48 : FVec F S4x250000x1 .f32 := addf main_v45 main_v47
  let main_v49 : FVec F S4x250000x1 .f32 := Host.tanh main_v48
  let main_v50 : FVec F S4x250000 .f32 := shapeCast S4x250000 main_v49 shapeCasts_S4x250000x1_S4x250000
  let main_v51 : FVec F S250000x4 .f32 := (transpose S250000x4 [1, 0] · transposes_S4x250000_S250000x4_1_0) main_v50
  let main_cst_3 : FVec F S_ .f32 := constant S_ .f32 0x00000000#32
  let main_v52 : FVec F S_ .f32 := (fun x v => Host.reduceAdd x v reducesTo_S250000x4_S_d0_1 h_S_) main_v51 main_cst_3
  let main_cst_4 : FVec F S_ .f32 := constant S_ .f32 0x49742400#32
  let main_v53 : FVec F S_ .f32 := Host.divf main_v52 main_cst_4
  let main_v54 : FVec F S250000x4 .f32 := broadcastInDim S250000x4 ![] bcast_S_S250000x4 main_v53
  let main_v55 : FVec F S250000x4 .f32 := subf main_v51 main_v54
  let main_c_5 : IVec S_ 32 := constantI S_ 32 1#32
  let main_v56 : FVec F S_ .f32 := fn_std (F := F) main_v55 main_c_5
  let main_v57 : FVec F S250000x4 .f32 := broadcastInDim S250000x4 ![] bcast_S_S250000x4 main_v56
  let main_v58 : FVec F S250000x4 .f32 := Host.divf main_v55 main_v57
  let main_v59 : FVec F S1x4x20 .f32 := broadcastInDim S1x4x20 ![1, 2] bcast_S4x20_S1x4x20_1_2 main_v19
  let main_v60 : FVec F S250000x4x1 .f32 := broadcastInDim S250000x4x1 ![0, 1] bcast_S250000x4_S250000x4x1_0_1 main_v39
  let main_v61 : FVec F S250000x4x20 .f32 := broadcastInDim S250000x4x20 ![0, 1, 2] bcast_S1x4x20_S250000x4x20_0_1_2 main_v59
  let main_v62 : FVec F S250000x4x20 .f32 := broadcastInDim S250000x4x20 ![0, 1, 2] bcast_S250000x4x1_S250000x4x20_0_1_2 main_v60
  let main_v63 : IVec S250000x4x20 1 := cmpf .olt main_v61 main_v62
  fn_part3 (F := F) main_arg16 main_v16 main_v19 main_v39 main_v58 main_v63

def fn_part1 {F : FTy → Type} [FloatOps F] (main_arg2 : FVec F S4x250000x8 .f32) (main_arg8 : FVec F S8 .f32) (main_arg9 : FVec F S8x1 .f32) (main_arg10 : FVec F S1 .f32) (main_arg11 : FVec F S8x8 .f32) (main_arg12 : FVec F S8 .f32) (main_arg13 : FVec F S8x1 .f32) (main_arg14 : FVec F S1 .f32) (main_arg16 : FVec F S250000x4 .f32) (main_v16 : FVec F S4x20 .f32) (main_v19 : FVec F S4x20 .f32) (main_v20 : FVec F S4x250000x8 .f32) : IVec S250000x4 1 :=
  let main_v21 : FVec F S1x1x8 .f32 := broadcastInDim S1x1x8 ![2] bcast_S8_S1x1x8_2 main_arg8
  let main_v22 : FVec F S4x250000x8 .f32 := broadcastInDim S4x250000x8 ![0, 1, 2] bcast_S1x1x8_S4x250000x8_0_1_2 main_v21
  let main_v23 : FVec F S4x250000x8 .f32 := addf main_v20 main_v22
  let main_v24 : FVec F S4x250000x8 .f32 := Host.tanh main_v23
  let main_v25 : FVec F S4x250000x1 .f32 := (fun l r => Host.dotGeneral dot_S4x250000x8_S8x1_S4x250000x1_2_0_01_1_n_n none l r) main_v24 main_arg9
  let main_v26 : FVec F S1x1x1 .f32 := broadcastInDim S1x1x1 ![2] bcast_S1_S1x1x1_2 main_arg10
  let main_v27 : FVec F S4x250000x1 .f32 := broadcastInDim S4x250000x1 ![0, 1, 2] bcast_S1x1x1_S4x250000x1_0_1_2 main_v26
  let main_v28 : FVec F S4x250000x1 .f32 := addf main_v25 main_v27
  let main_v29 : FVec F S4x250000x1 .f32 := Host.tanh main_v28
  let main_v30 : FVec F S4x250000 .f32 := shapeCast S4x250000 main_v29 shapeCasts_S4x250000x1_S4x250000
  let main_cst_1 : FVec F S_ .f32 := constant S_ .f32 0x7F800000#32
  let main_v31 : FVec F S4 .f32 := (fun x v => Host.reduce FloatOps.minimumf x v reducesTo_S4x250000_S4_d1 h_S_) main_v30 main_cst_1
  let main_v32 : FVec F S4x1 .f32 := broadcastInDim S4x1 ![0] bcast_S4_S4x1_0 main_v31
  let main_v33 : FVec F S4x250000 .f32 := broadcastInDim S4x250000 ![0, 1] bcast_S4x1_S4x250000_0_1 main_v32
  let main_v34 : FVec F S4x250000 .f32 := subf main_v30 main_v33
  let main_cst_2 : FVec F S_ .f32 := constant S_ .f32 0xFF800000#32
  let main_v35 : FVec F S4 .f32 := (fun x v => Host.reduce FloatOps.maximumf x v reducesTo_S4x250000_S4_d1 h_S_) main_v34 main_cst_2
  let main_v36 : FVec F S4x1 .f32 := broadcastInDim S4x1 ![0] bcast_S4_S4x1_0 main_v35
  let main_v37 : FVec F S4x250000 .f32 := broadcastInDim S4x250000 ![0, 1] bcast_S4x1_S4x250000_0_1 main_v36
  let main_v38 : FVec F S4x250000 .f32 := Host.divf main_v34 main_v37
  let main_v39 : FVec F S250000x4 .f32 := (transpose S250000x4 [1, 0] · transposes_S4x250000_S250000x4_1_0) main_v38
  let main_v40 : FVec F S4x250000x8 .f32 := (fun l r => Host.dotGeneral dot_S4x250000x8_S8x8_S4x250000x8_2_0_01_1_n_n none l r) main_arg2 main_arg11
  let main_v41 : FVec F S1x1x8 .f32 := broadcastInDim S1x1x8 ![2] bcast_S8_S1x1x8_2 main_arg12
  let main_v42 : FVec F S4x250000x8 .f32 := broadcastInDim S4x250000x8 ![0, 1, 2] bcast_S1x1x8_S4x250000x8_0_1_2 main_v41
  fn_part2 (F := F) main_arg13 main_arg14 main_arg16 main_v16 main_v19 main_v39 main_v40 main_v42

def fn {F : FTy → Type} [FloatOps F] (main_arg0 : FVec F S4x8 .f32) (main_arg1 : FVec F S4x250000x8 .f32) (main_arg2 : FVec F S4x250000x8 .f32) (main_arg3 : FVec F S8x8 .f32) (main_arg4 : FVec F S8 .f32) (main_arg5 : FVec F S8x20 .f32) (main_arg6 : FVec F S20 .f32) (main_arg7 : FVec F S8x8 .f32) (main_arg8 : FVec F S8 .f32) (main_arg9 : FVec F S8x1 .f32) (main_arg10 : FVec F S1 .f32) (main_arg11 : FVec F S8x8 .f32) (main_arg12 : FVec F S8 .f32) (main_arg13 : FVec F S8x1 .f32) (main_arg14 : FVec F S1 .f32) (main_arg15 : IVec S4 32) (main_arg16 : FVec F S250000x4 .f32) : IVec S250000x4 1 :=
  let main_v0 : FVec F S4x8 .f32 := (fun l r => Host.dotGeneral dot_S4x8_S8x8_S4x8_1_0_0_1_n_n none l r) main_arg0 main_arg3
  let main_v1 : FVec F S1x8 .f32 := broadcastInDim S1x8 ![1] bcast_S8_S1x8_1 main_arg4
  let main_v2 : FVec F S4x8 .f32 := broadcastInDim S4x8 ![0, 1] bcast_S1x8_S4x8_0_1 main_v1
  let main_v3 : FVec F S4x8 .f32 := addf main_v0 main_v2
  let main_v4 : FVec F S4x8 .f32 := Host.tanh main_v3
  let main_v5 : FVec F S4x20 .f32 := (fun l r => Host.dotGeneral dot_S4x8_S8x20_S4x20_1_0_0_1_n_n none l r) main_v4 main_arg5
  let main_v6 : FVec F S1x20 .f32 := broadcastInDim S1x20 ![1] bcast_S20_S1x20_1 main_arg6
  let main_v7 : FVec F S4x20 .f32 := broadcastInDim S4x20 ![0, 1] bcast_S1x20_S4x20_0_1 main_v6
  let main_v8 : FVec F S4x20 .f32 := addf main_v5 main_v7
  let main_v9 : FVec F S4x20 .f32 := Host.tanh main_v8
  let main_c : IVec S_ 32 := constantI S_ 32 0#32
  let main_v10 : IVec S4 32 := broadcastInDim S4 ![] bcast_S_S4 main_c
  let main_v11 : IVec S4 1 := cmpi .ne main_arg15 main_v10
  let main_v12 : IVec S4 1 := id main_v11
  let main_v13 : FVec F S4x20 .f32 := fn_sort (F := F) main_v9
  let main_v14 : IVec S4x1 1 := broadcastInDim S4x1 ![0] bcast_S4_S4x1_0 main_v12
  let main_v15 : FVec F S4x20 .f32 := Host.reverse [1] main_v13
  let main_v16 : FVec F S4x20 .f32 := fn_where (F := F) main_v14 main_v13 main_v15
  let main_cst : FVec F S_ .f32 := constant S_ .f32 0x00000000#32
  let main_cst_0 : FVec F S_ .f32 := constant S_ .f32 0x3F800000#32
  let main_v17 : FVec F S20 .f32 := fn_linspace (F := F) main_cst main_cst_0
  let main_v18 : FVec F S1x20 .f32 := broadcastInDim S1x20 ![1] bcast_S20_S1x20_1 main_v17
  let main_v19 : FVec F S4x20 .f32 := broadcastInDim S4x20 ![0, 1] bcast_S1x20_S4x20_0_1 main_v18
  let main_v20 : FVec F S4x250000x8 .f32 := (fun l r => Host.dotGeneral dot_S4x250000x8_S8x8_S4x250000x8_2_0_01_1_n_n none l r) main_arg1 main_arg7
  fn_part1 (F := F) main_arg2 main_arg8 main_arg9 main_arg10 main_arg11 main_arg12 main_arg13 main_arg14 main_arg16 main_v16 main_v19 main_v20
-- ==== Pre_rows_vary.lean ====
abbrev S4x8 : Shape := ⟨2, ![4, 8]⟩
abbrev S4x250000x8 : Shape := ⟨3, ![4, 250000, 8]⟩
abbrev S8x8 : Shape := ⟨2, ![8, 8]⟩
abbrev S8 : Shape := ⟨1, ![8]⟩
abbrev S8x20 : Shape := ⟨2, ![8, 20]⟩
abbrev S20 : Shape := ⟨1, ![20]⟩
abbrev S8x1 : Shape := ⟨2, ![8, 1]⟩
abbrev S1 : Shape := ⟨1, ![1]⟩
abbrev S4 : Shape := ⟨1, ![4]⟩
abbrev S1x1x8 : Shape := ⟨3, ![1, 1, 8]⟩
abbrev S4x250000x1 : Shape := ⟨3, ![4, 250000, 1]⟩
abbrev S1x1x1 : Shape := ⟨3, ![1, 1, 1]⟩
abbrev S4x250000 : Shape := ⟨2, ![4, 250000]⟩
abbrev S_ : Shape := ⟨0, ![]⟩

class Facts : Prop where
  bcast_S8_S1x1x8_2 : S8.BroadcastsInDim S1x1x8 (![2] : Fin 1 → Fin S1x1x8.rank)
  bcast_S1x1x8_S4x250000x8_0_1_2 : S1x1x8.BroadcastsInDim S4x250000x8 (![0, 1, 2] : Fin 3 → Fin S4x250000x8.rank)
  bcast_S1_S1x1x1_2 : S1.BroadcastsInDim S1x1x1 (![2] : Fin 1 → Fin S1x1x1.rank)
  bcast_S1x1x1_S4x250000x1_0_1_2 : S1x1x1.BroadcastsInDim S4x250000x1 (![0, 1, 2] : Fin 3 → Fin S4x250000x1.rank)
  shapeCasts_S4x250000x1_S4x250000 : S4x250000x1.ShapeCasts S4x250000
  reducesTo_S4x250000_S4_d1 : S4x250000.ReducesTo [1] S4
  h_S_ : 0 < S_.numel
  reducesTo_S4_S_d0 : S4.ReducesTo [0] S_
  dot_S4x250000x8_S8x8_S4x250000x8_2_0_01_1_n_n_wf : DotDims.WF S4x250000x8 S8x8 S4x250000x8 [2] [0] [0, 1] [1] [] []
  dot_S4x250000x8_S8x1_S4x250000x1_2_0_01_1_n_n_wf : DotDims.WF S4x250000x8 S8x1 S4x250000x1 [2] [0] [0, 1] [1] [] []

variable [Facts]

def dot_S4x250000x8_S8x8_S4x250000x8_2_0_01_1_n_n : DotDims S4x250000x8 S8x8 S4x250000x8 where
  lhsContracting := [2]
  rhsContracting := [0]
  lhsNonContracting := [0, 1]
  rhsNonContracting := [1]
  lhsBatch := []
  rhsBatch := []
  wf := dot_S4x250000x8_S8x8_S4x250000x8_2_0_01_1_n_n_wf
def dot_S4x250000x8_S8x1_S4x250000x1_2_0_01_1_n_n : DotDims S4x250000x8 S8x1 S4x250000x1 where
  lhsContracting := [2]
  rhsContracting := [0]
  lhsNonContracting := [0, 1]
  rhsNonContracting := [1]
  lhsBatch := []
  rhsBatch := []
  wf := dot_S4x250000x8_S8x1_S4x250000x1_2_0_01_1_n_n_wf
def fn {F : FTy → Type} [FloatOps F] (main_arg0 : FVec F S4x8 .f32) (main_arg1 : FVec F S4x250000x8 .f32) (main_arg2 : FVec F S4x250000x8 .f32) (main_arg3 : FVec F S8x8 .f32) (main_arg4 : FVec F S8 .f32) (main_arg5 : FVec F S8x20 .f32) (main_arg6 : FVec F S20 .f32) (main_arg7 : FVec F S8x8 .f32) (main_arg8 : FVec F S8 .f32) (main_arg9 : FVec F S8x1 .f32) (main_arg10 : FVec F S1 .f32) (main_arg11 : FVec F S8x8 .f32) (main_arg12 : FVec F S8 .f32) (main_arg13 : FVec F S8x1 .f32) (main_arg14 : FVec F S1 .f32) (main_arg15 : IVec S4 32) : IVec S_ 1 :=
  let main_v0 : FVec F S4x250000x8 .f32 := (fun l r => Host.dotGeneral dot_S4x250000x8_S8x8_S4x250000x8_2_0_01_1_n_n none l r) main_arg1 main_arg7
  let main_v1 : FVec F S1x1x8 .f32 := broadcastInDim S1x1x8 ![2] bcast_S8_S1x1x8_2 main_arg8
  let main_v2 : FVec F S4x250000x8 .f32 := broadcastInDim S4x250000x8 ![0, 1, 2] bcast_S1x1x8_S4x250000x8_0_1_2 main_v1
  let main_v3 : FVec F S4x250000x8 .f32 := addf main_v0 main_v2
  let main_v4 : FVec F S4x250000x8 .f32 := Host.tanh main_v3
  let main_v5 : FVec F S4x250000x1 .f32 := (fun l r => Host.dotGeneral dot_S4x250000x8_S8x1_S4x250000x1_2_0_01_1_n_n none l r) main_v4 main_arg9
  let main_v6 : FVec F S1x1x1 .f32 := broadcastInDim S1x1x1 ![2] bcast_S1_S1x1x1_2 main_arg10
  let main_v7 : FVec F S4x250000x1 .f32 := broadcastInDim S4x250000x1 ![0, 1, 2] bcast_S1x1x1_S4x250000x1_0_1_2 main_v6
  let main_v8 : FVec F S4x250000x1 .f32 := addf main_v5 main_v7
  let main_v9 : FVec F S4x250000x1 .f32 := Host.tanh main_v8
  let main_v10 : FVec F S4x250000 .f32 := shapeCast S4x250000 main_v9 shapeCasts_S4x250000x1_S4x250000
  let main_cst : FVec F S_ .f32 := constant S_ .f32 0x7F800000#32
  let main_v11 : FVec F S4 .f32 := (fun x v => Host.reduce FloatOps.minimumf x v reducesTo_S4x250000_S4_d1 h_S_) main_v10 main_cst
  let main_cst_0 : FVec F S_ .f32 := constant S_ .f32 0xFF800000#32
  let main_v12 : FVec F S4 .f32 := (fun x v => Host.reduce FloatOps.maximumf x v reducesTo_S4x250000_S4_d1 h_S_) main_v10 main_cst_0
  let main_v13 : IVec S4 1 := cmpf .olt main_v11 main_v12
  let main_c : IVec S_ 1 := constantI S_ 1 1#1
  let main_v14 : IVec S_ 1 := (fun x v => Host.reduce IntOp.andi x v reducesTo_S4_S_d0 h_S_) main_v13 main_c
  main_v14
-- ==== Kernel.lean ====
abbrev S4x8 : Shape := ⟨2, ![4, 8]⟩
abbrev S4x250000x8 : Shape := ⟨3, ![4, 250000, 8]⟩
abbrev S8x8 : Shape := ⟨2, ![8, 8]⟩
abbrev S8 : Shape := ⟨1, ![8]⟩
abbrev S8x20 : Shape := ⟨2, ![8, 20]⟩
abbrev S20 : Shape := ⟨1, ![20]⟩
abbrev S8x1 : Shape := ⟨2, ![8, 1]⟩
abbrev S1 : Shape := ⟨1, ![1]⟩
abbrev S4 : Shape := ⟨1, ![4]⟩
abbrev S1x8 : Shape := ⟨2, ![1, 8]⟩
abbrev S4x20 : Shape := ⟨2, ![4, 20]⟩
abbrev S1x20 : Shape := ⟨2, ![1, 20]⟩
abbrev S_ : Shape := ⟨0, ![]⟩
abbrev S4x1 : Shape := ⟨2, ![4, 1]⟩
abbrev S4x125x2000x8 : Shape := ⟨4, ![4, 125, 2000, 8]⟩
abbrev S32 : Shape := ⟨1, ![32]⟩
abbrev S32x1 : Shape := ⟨2, ![32, 1]⟩
abbrev S4x4 : Shape := ⟨2, ![4, 4]⟩
abbrev S4x1x4x1 : Shape := ⟨4, ![4, 1, 4, 1]⟩
abbrev S1x1x1x8 : Shape := ⟨4, ![1, 1, 1, 8]⟩
abbrev S4x1x4x8 : Shape := ⟨4, ![4, 1, 4, 8]⟩
abbrev S4x32 : Shape := ⟨2, ![4, 32]⟩
abbrev S1x1 : Shape := ⟨2, ![1, 1]⟩
abbrev S125x2000x4 : Shape := ⟨3, ![125, 2000, 4]⟩
abbrev S4x1x2000x8 : Shape := ⟨4, ![4, 1, 2000, 8]⟩
abbrev S1x2000x4 : Shape := ⟨3, ![1, 2000, 4]⟩
abbrev S125x4x2000 : Shape := ⟨3, ![125, 4, 2000]⟩
abbrev S1x16 : Shape := ⟨2, ![1, 16]⟩
abbrev S1x1x2000x8 : Shape := ⟨4, ![1, 1, 2000, 8]⟩
abbrev S2000x8 : Shape := ⟨2, ![2000, 8]⟩
abbrev S8x2000 : Shape := ⟨2, ![8, 2000]⟩
abbrev S32x2000 : Shape := ⟨2, ![32, 2000]⟩
abbrev S4x2000 : Shape := ⟨2, ![4, 2000]⟩
abbrev S1x4x2000 : Shape := ⟨3, ![1, 4, 2000]⟩
abbrev S1x2000 : Shape := ⟨2, ![1, 2000]⟩
abbrev S1x1x2000 : Shape := ⟨3, ![1, 1, 2000]⟩
abbrev S1x1x1 : Shape := ⟨3, ![1, 1, 1]⟩
abbrev S2000x4 : Shape := ⟨2, ![2000, 4]⟩
abbrev S250000x4 : Shape := ⟨2, ![250000, 4]⟩

abbrev nBuf : Space → Nat
  | .hbm => 72
  | .vmem => 17
  | .smem => 1
  | _ => 0

abbrev bufTy : (tb : Table) → Fin (tcTables nBuf tb) → BufTy
  | .hbm, ⟨0, _⟩ => ⟨S4x8, .f32⟩
  | .hbm, ⟨1, _⟩ => ⟨S4x250000x8, .f32⟩
  | .hbm, ⟨2, _⟩ => ⟨S4x250000x8, .f32⟩
  | .hbm, ⟨3, _⟩ => ⟨S8x8, .f32⟩
  | .hbm, ⟨4, _⟩ => ⟨S8, .f32⟩
  | .hbm, ⟨5, _⟩ => ⟨S8x20, .f32⟩
  | .hbm, ⟨6, _⟩ => ⟨S20, .f32⟩
  | .hbm, ⟨7, _⟩ => ⟨S8x8, .f32⟩
  | .hbm, ⟨8, _⟩ => ⟨S8, .f32⟩
  | .hbm, ⟨9, _⟩ => ⟨S8x1, .f32⟩
  | .hbm, ⟨10, _⟩ => ⟨S1, .f32⟩
  | .hbm, ⟨11, _⟩ => ⟨S8x8, .f32⟩
  | .hbm, ⟨12, _⟩ => ⟨S8, .f32⟩
  | .hbm, ⟨13, _⟩ => ⟨S8x1, .f32⟩
  | .hbm, ⟨14, _⟩ => ⟨S1, .f32⟩
  | .hbm, ⟨15, _⟩ => ⟨S4, .i32⟩
  | .hbm, ⟨16, _⟩ => ⟨S4x8, .f32⟩
  | .hbm, ⟨17, _⟩ => ⟨S1x8, .f32⟩
  | .hbm, ⟨18, _⟩ => ⟨S4x8, .f32⟩
  | .hbm, ⟨19, _⟩ => ⟨S4x8, .f32⟩
  | .hbm, ⟨20, _⟩ => ⟨S4x8, .f32⟩
  | .hbm, ⟨21, _⟩ => ⟨S4x20, .f32⟩
  | .hbm, ⟨22, _⟩ => ⟨S1x20, .f32⟩
  | .hbm, ⟨23, _⟩ => ⟨S4x20, .f32⟩
  | .hbm, ⟨24, _⟩ => ⟨S4x20, .f32⟩
  | .hbm, ⟨25, _⟩ => ⟨S4x20, .f32⟩
  | .hbm, ⟨26, _⟩ => ⟨S_, .i32⟩
  | .hbm, ⟨27, _⟩ => ⟨S4, .i32⟩
  | .hbm, ⟨28, _⟩ => ⟨S4, .i1⟩
  | .hbm, ⟨29, _⟩ => ⟨S4, .i1⟩
  | .hbm, ⟨30, _⟩ => ⟨S4x20, .f32⟩
  | .hbm, ⟨31, _⟩ => ⟨S4x1, .i1⟩
  | .hbm, ⟨32, _⟩ => ⟨S4x20, .f32⟩
  | .hbm, ⟨33, _⟩ => ⟨S4x20, .i1⟩
  | .hbm, ⟨34, _⟩ => ⟨S4x20, .f32⟩
  | .hbm, ⟨35, _⟩ => ⟨S4x125x2000x8, .f32⟩
  | .hbm, ⟨36, _⟩ => ⟨S4x125x2000x8, .f32⟩
  | .hbm, ⟨37, _⟩ => ⟨S1x8, .f32⟩
  | .hbm, ⟨38, _⟩ => ⟨S4x8, .f32⟩
  | .hbm, ⟨39, _⟩ => ⟨S32, .f32⟩
  | .hbm, ⟨40, _⟩ => ⟨S32x1, .f32⟩
  | .hbm, ⟨41, _⟩ => ⟨S1x8, .f32⟩
  | .hbm, ⟨42, _⟩ => ⟨S4x8, .f32⟩
  | .hbm, ⟨43, _⟩ => ⟨S32, .f32⟩
  | .hbm, ⟨44, _⟩ => ⟨S32x1, .f32⟩
  | .hbm, ⟨45, _⟩ => ⟨S4x4, .i32⟩
  | .hbm, ⟨46, _⟩ => ⟨S4x4, .i32⟩
  | .hbm, ⟨47, _⟩ => ⟨S_, .i32⟩
  | .hbm, ⟨48, _⟩ => ⟨S4x4, .i32⟩
  | .hbm, ⟨49, _⟩ => ⟨S4x4, .i32⟩
  | .hbm, ⟨50, _⟩ => ⟨S4x4, .i1⟩
  | .hbm, ⟨51, _⟩ => ⟨S4x4, .f32⟩
  | .hbm, ⟨52, _⟩ => ⟨S8, .f32⟩
  | .hbm, ⟨53, _⟩ => ⟨S1x8, .f32⟩
  | .hbm, ⟨54, _⟩ => ⟨S4x1x4x1, .f32⟩
  | .hbm, ⟨55, _⟩ => ⟨S1x1x1x8, .f32⟩
  | .hbm, ⟨56, _⟩ => ⟨S4x1x4x8, .f32⟩
  | .hbm, ⟨57, _⟩ => ⟨S4x1x4x8, .f32⟩
  | .hbm, ⟨58, _⟩ => ⟨S4x1x4x8, .f32⟩
  | .hbm, ⟨59, _⟩ => ⟨S4x32, .f32⟩
  | .hbm, ⟨60, _⟩ => ⟨S8, .f32⟩
  | .hbm, ⟨61, _⟩ => ⟨S1x8, .f32⟩
  | .hbm, ⟨62, _⟩ => ⟨S4x1x4x1, .f32⟩
  | .hbm, ⟨63, _⟩ => ⟨S1x1x1x8, .f32⟩
  | .hbm, ⟨64, _⟩ => ⟨S4x1x4x8, .f32⟩
  | .hbm, ⟨65, _⟩ => ⟨S4x1x4x8, .f32⟩
  | .hbm, ⟨66, _⟩ => ⟨S4x1x4x8, .f32⟩
  | .hbm, ⟨67, _⟩ => ⟨S4x32, .f32⟩
  | .hbm, ⟨68, _⟩ => ⟨S1x1, .f32⟩
  | .hbm, ⟨69, _⟩ => ⟨S1x1, .f32⟩
  | .hbm, ⟨70, _⟩ => ⟨S125x2000x4, .f32⟩
  | .hbm, ⟨71, _⟩ => ⟨S250000x4, .f32⟩
  | .local _ .vmem, ⟨0, _⟩ => ⟨S4x1x2000x8, .f32⟩
  | .local _ .vmem, ⟨1, _⟩ => ⟨S4x1x2000x8, .f32⟩
  | .local _ .vmem, ⟨2, _⟩ => ⟨S4x1x2000x8, .f32⟩
  | .local _ .vmem, ⟨3, _⟩ => ⟨S4x1x2000x8, .f32⟩
  | .local _ .vmem, ⟨4, _⟩ => ⟨S8x8, .f32⟩
  | .local _ .vmem, ⟨5, _⟩ => ⟨S32x1, .f32⟩
  | .local _ .vmem, ⟨6, _⟩ => ⟨S4x32, .f32⟩
  | .local _ .vmem, ⟨7, _⟩ => ⟨S1x1, .f32⟩
  | .local _ .vmem, ⟨8, _⟩ => ⟨S8x8, .f32⟩
  | .local _ .vmem, ⟨9, _⟩ => ⟨S32x1, .f32⟩
  | .local _ .vmem, ⟨10, _⟩ => ⟨S4x32, .f32⟩
  | .local _ .vmem, ⟨11, _⟩ => ⟨S1x1, .f32⟩
  | .local _ .vmem, ⟨12, _⟩ => ⟨S4x20, .f32⟩
  | .local _ .vmem, ⟨13, _⟩ => ⟨S1x2000x4, .f32⟩
  | .local _ .vmem, ⟨14, _⟩ => ⟨S1x2000x4, .f32⟩
  | .local _ .vmem, ⟨15, _⟩ => ⟨S125x4x2000, .f32⟩
  | .local _ .vmem, ⟨16, _⟩ => ⟨S125x4x2000, .f32⟩
  | .local _ .smem, ⟨0, _⟩ => ⟨S1x16, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![2, 125], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v66 : Index := Scalar.indexCast arg1
  let c0_67 : Index := 0#32
  let c0_68 : Index := 0#32
  ![v66.toNat, 0, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg1 : BitVec 32 := BitVec.ofNat 32 (i 1).val
  let v40 : Index := Scalar.indexCast arg1
  let c0_19 : Index := 0#32
  let c0_20 : Index := 0#32
  ![v40.toNat, 0, 0]
def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S4x1x2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x2000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2000x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "knot1" => some ((1 / 19 : ℝ) : EReal)
  | "knot10" => some ((10 / 19 : ℝ) : EReal)
  | "knot11" => some ((11 / 19 : ℝ) : EReal)
  | "knot12" => some ((12 / 19 : ℝ) : EReal)
  | "knot13" => some ((13 / 19 : ℝ) : EReal)
  | "knot14" => some ((14 / 19 : ℝ) : EReal)
  | "knot15" => some ((15 / 19 : ℝ) : EReal)
  | "knot16" => some ((16 / 19 : ℝ) : EReal)
  | "knot17" => some ((17 / 19 : ℝ) : EReal)
  | "knot18" => some ((18 / 19 : ℝ) : EReal)
  | "knot2" => some ((2 / 19 : ℝ) : EReal)
  | "knot3" => some ((3 / 19 : ℝ) : EReal)
  | "knot4" => some ((4 / 19 : ℝ) : EReal)
  | "knot5" => some ((5 / 19 : ℝ) : EReal)
  | "knot6" => some ((6 / 19 : ℝ) : EReal)
  | "knot7" => some ((7 / 19 : ℝ) : EReal)
  | "knot8" => some ((8 / 19 : ℝ) : EReal)
  | "knot9" => some ((9 / 19 : ℝ) : EReal)
  | _ => none
-- ==== ReferenceIdeal.lean ====
abbrev S4x8 : Shape := ⟨2, ![4, 8]⟩
abbrev S4x250000x8 : Shape := ⟨3, ![4, 250000, 8]⟩
abbrev S8x8 : Shape := ⟨2, ![8, 8]⟩
abbrev S8 : Shape := ⟨1, ![8]⟩
abbrev S8x20 : Shape := ⟨2, ![8, 20]⟩
abbrev S20 : Shape := ⟨1, ![20]⟩
abbrev S8x1 : Shape := ⟨2, ![8, 1]⟩
abbrev S1 : Shape := ⟨1, ![1]⟩
abbrev S4 : Shape := ⟨1, ![4]⟩
abbrev S1x8 : Shape := ⟨2, ![1, 8]⟩
abbrev S4x20 : Shape := ⟨2, ![4, 20]⟩
abbrev S1x20 : Shape := ⟨2, ![1, 20]⟩
abbrev S_ : Shape := ⟨0, ![]⟩
abbrev S4x1 : Shape := ⟨2, ![4, 1]⟩
abbrev S19 : Shape := ⟨1, ![19]⟩
abbrev S1x1x8 : Shape := ⟨3, ![1, 1, 8]⟩
abbrev S4x250000x1 : Shape := ⟨3, ![4, 250000, 1]⟩
abbrev S1x1x1 : Shape := ⟨3, ![1, 1, 1]⟩
abbrev S4x250000 : Shape := ⟨2, ![4, 250000]⟩
abbrev S250000x4 : Shape := ⟨2, ![250000, 4]⟩
abbrev S1x1 : Shape := ⟨2, ![1, 1]⟩
abbrev S1x4x20 : Shape := ⟨3, ![1, 4, 20]⟩
abbrev S250000x4x1 : Shape := ⟨3, ![250000, 4, 1]⟩
abbrev S250000x4x20 : Shape := ⟨3, ![250000, 4, 20]⟩
abbrev S1x1x19 : Shape := ⟨3, ![1, 1, 19]⟩
abbrev S250000x4x19 : Shape := ⟨3, ![250000, 4, 19]⟩
abbrev S4x19 : Shape := ⟨2, ![4, 19]⟩
abbrev S1x4x19 : Shape := ⟨3, ![1, 4, 19]⟩
abbrev S1x4 : Shape := ⟨2, ![1, 4]⟩

abbrev nBuf : Space → Nat
  | .hbm => 206
  | .vmem => 0
  | .smem => 0
  | _ => 0

abbrev hbmTy0_0 (i : Nat) : BufTy := match i % 128 with
  | 0 => ⟨S4x8, .f32⟩
  | 1 => ⟨S4x250000x8, .f32⟩
  | 2 => ⟨S4x250000x8, .f32⟩
  | 3 => ⟨S8x8, .f32⟩
  | 4 => ⟨S8, .f32⟩
  | 5 => ⟨S8x20, .f32⟩
  | 6 => ⟨S20, .f32⟩
  | 7 => ⟨S8x8, .f32⟩
  | 8 => ⟨S8, .f32⟩
  | 9 => ⟨S8x1, .f32⟩
  | 10 => ⟨S1, .f32⟩
  | 11 => ⟨S8x8, .f32⟩
  | 12 => ⟨S8, .f32⟩
  | 13 => ⟨S8x1, .f32⟩
  | 14 => ⟨S1, .f32⟩
  | 15 => ⟨S4, .i32⟩
  | 16 => ⟨S4x8, .f32⟩
  | 17 => ⟨S1x8, .f32⟩
  | 18 => ⟨S4x8, .f32⟩
  | 19 => ⟨S4x8, .f32⟩
  | 20 => ⟨S4x8, .f32⟩
  | 21 => ⟨S4x20, .f32⟩
  | 22 => ⟨S1x20, .f32⟩
  | 23 => ⟨S4x20, .f32⟩
  | 24 => ⟨S4x20, .f32⟩
  | 25 => ⟨S4x20, .f32⟩
  | 26 => ⟨S_, .i32⟩
  | 27 => ⟨S4, .i32⟩
  | 28 => ⟨S4, .i1⟩
  | 29 => ⟨S4, .i1⟩
  | 30 => ⟨S4x20, .f32⟩
  | 31 => ⟨S4x1, .i1⟩
  | 32 => ⟨S4x20, .f32⟩
  | 33 => ⟨S4x20, .i1⟩
  | 34 => ⟨S4x20, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S19, .f32⟩
  | 43 => ⟨S_, .f32⟩
  | 44 => ⟨S19, .f32⟩
  | 45 => ⟨S19, .f32⟩
  | 46 => ⟨S1, .f32⟩
  | 47 => ⟨S_, .f32⟩
  | 48 => ⟨S19, .f32⟩
  | 49 => ⟨S19, .f32⟩
  | 50 => ⟨S19, .f32⟩
  | 51 => ⟨S19, .f32⟩
  | 52 => ⟨S1, .f32⟩
  | 53 => ⟨S19, .f32⟩
  | 54 => ⟨S19, .f32⟩
  | 55 => ⟨S19, .f32⟩
  | 56 => ⟨S1, .f32⟩
  | 57 => ⟨S20, .f32⟩
  | 58 => ⟨S1x20, .f32⟩
  | 59 => ⟨S4x20, .f32⟩
  | 60 => ⟨S4x250000x8, .f32⟩
  | 61 => ⟨S1x1x8, .f32⟩
  | 62 => ⟨S4x250000x8, .f32⟩
  | 63 => ⟨S4x250000x8, .f32⟩
  | 64 => ⟨S4x250000x8, .f32⟩
  | 65 => ⟨S4x250000x1, .f32⟩
  | 66 => ⟨S1x1x1, .f32⟩
  | 67 => ⟨S4x250000x1, .f32⟩
  | 68 => ⟨S4x250000x1, .f32⟩
  | 69 => ⟨S4x250000x1, .f32⟩
  | 70 => ⟨S4x250000, .f32⟩
  | 71 => ⟨S_, .f32⟩
  | 72 => ⟨S4, .f32⟩
  | 73 => ⟨S4x1, .f32⟩
  | 74 => ⟨S4x250000, .f32⟩
  | 75 => ⟨S4x250000, .f32⟩
  | 76 => ⟨S_, .f32⟩
  | 77 => ⟨S4, .f32⟩
  | 78 => ⟨S4x1, .f32⟩
  | 79 => ⟨S4x250000, .f32⟩
  | 80 => ⟨S4x250000, .f32⟩
  | 81 => ⟨S250000x4, .f32⟩
  | 82 => ⟨S4x250000x8, .f32⟩
  | 83 => ⟨S1x1x8, .f32⟩
  | 84 => ⟨S4x250000x8, .f32⟩
  | 85 => ⟨S4x250000x8, .f32⟩
  | 86 => ⟨S4x250000x8, .f32⟩
  | 87 => ⟨S4x250000x1, .f32⟩
  | 88 => ⟨S1x1x1, .f32⟩
  | 89 => ⟨S4x250000x1, .f32⟩
  | 90 => ⟨S4x250000x1, .f32⟩
  | 91 => ⟨S4x250000x1, .f32⟩
  | 92 => ⟨S4x250000, .f32⟩
  | 93 => ⟨S250000x4, .f32⟩
  | 94 => ⟨S_, .f32⟩
  | 95 => ⟨S_, .f32⟩
  | 96 => ⟨S_, .f32⟩
  | 97 => ⟨S_, .f32⟩
  | 98 => ⟨S250000x4, .f32⟩
  | 99 => ⟨S250000x4, .f32⟩
  | 100 => ⟨S_, .i32⟩
  | 101 => ⟨S_, .f32⟩
  | 102 => ⟨S_, .f32⟩
  | 103 => ⟨S1x1, .f32⟩
  | 104 => ⟨S_, .f32⟩
  | 105 => ⟨S1x1, .f32⟩
  | 106 => ⟨S1x1, .f32⟩
  | 107 => ⟨S250000x4, .f32⟩
  | 108 => ⟨S250000x4, .f32⟩
  | 109 => ⟨S250000x4, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S_, .f32⟩
  | 122 => ⟨S250000x4, .f32⟩
  | 123 => ⟨S250000x4, .f32⟩
  | 124 => ⟨S1x4x20, .f32⟩
  | 125 => ⟨S250000x4x1, .f32⟩
  | 126 => ⟨S250000x4x20, .f32⟩
  | 127 => ⟨S250000x4x20, .f32⟩
  | _ => ⟨S4x8, .f32⟩

abbrev hbmTy0_1 (i : Nat) : BufTy := match i % 128 with
  | 0 => ⟨S250000x4x20, .i1⟩
  | 1 => ⟨S250000x4x20, .i32⟩
  | 2 => ⟨S_, .i32⟩
  | 3 => ⟨S250000x4, .i32⟩
  | 4 => ⟨S_, .i32⟩
  | 5 => ⟨S250000x4, .i32⟩
  | 6 => ⟨S250000x4, .i32⟩
  | 7 => ⟨S_, .i32⟩
  | 8 => ⟨S_, .i32⟩
  | 9 => ⟨S_, .i32⟩
  | 10 => ⟨S250000x4, .i32⟩
  | 11 => ⟨S250000x4, .i32⟩
  | 12 => ⟨S_, .i32⟩
  | 13 => ⟨S250000x4, .i32⟩
  | 14 => ⟨S250000x4, .i32⟩
  | 15 => ⟨S250000x4x1, .i32⟩
  | 16 => ⟨S19, .i32⟩
  | 17 => ⟨S1x1x19, .i32⟩
  | 18 => ⟨S250000x4x19, .i32⟩
  | 19 => ⟨S250000x4x19, .i32⟩
  | 20 => ⟨S250000x4x19, .i1⟩
  | 21 => ⟨S4x19, .f32⟩
  | 22 => ⟨S1x4x19, .f32⟩
  | 23 => ⟨S_, .f32⟩
  | 24 => ⟨S250000x4x19, .f32⟩
  | 25 => ⟨S250000x4x19, .f32⟩
  | 26 => ⟨S250000x4x19, .f32⟩
  | 27 => ⟨S_, .f32⟩
  | 28 => ⟨S250000x4, .f32⟩
  | 29 => ⟨S4x19, .f32⟩
  | 30 => ⟨S1x4x19, .f32⟩
  | 31 => ⟨S_, .f32⟩
  | 32 => ⟨S250000x4x19, .f32⟩
  | 33 => ⟨S250000x4x19, .f32⟩
  | 34 => ⟨S250000x4x19, .f32⟩
  | 35 => ⟨S_, .f32⟩
  | 36 => ⟨S250000x4, .f32⟩
  | 37 => ⟨S4x19, .f32⟩
  | 38 => ⟨S1x4x19, .f32⟩
  | 39 => ⟨S_, .f32⟩
  | 40 => ⟨S250000x4x19, .f32⟩
  | 41 => ⟨S250000x4x19, .f32⟩
  | 42 => ⟨S250000x4x19, .f32⟩
  | 43 => ⟨S_, .f32⟩
  | 44 => ⟨S250000x4, .f32⟩
  | 45 => ⟨S4x19, .f32⟩
  | 46 => ⟨S1x4x19, .f32⟩
  | 47 => ⟨S_, .f32⟩
  | 48 => ⟨S250000x4x19, .f32⟩
  | 49 => ⟨S250000x4x19, .f32⟩
  | 50 => ⟨S250000x4x19, .f32⟩
  | 51 => ⟨S_, .f32⟩
  | 52 => ⟨S250000x4, .f32⟩
  | 53 => ⟨S250000x4, .f32⟩
  | 54 => ⟨S4x1, .f32⟩
  | 55 => ⟨S4, .f32⟩
  | 56 => ⟨S1x4, .f32⟩
  | 57 => ⟨S250000x4, .f32⟩
  | 58 => ⟨S250000x4, .f32⟩
  | 59 => ⟨S250000x4, .f32⟩
  | 60 => ⟨S_, .f32⟩
  | 61 => ⟨S250000x4, .f32⟩
  | 62 => ⟨S250000x4, .f32⟩
  | 63 => ⟨S250000x4, .f32⟩
  | 64 => ⟨S250000x4, .f32⟩
  | 65 => ⟨S250000x4, .f32⟩
  | 66 => ⟨S250000x4, .f32⟩
  | 67 => ⟨S250000x4, .f32⟩
  | 68 => ⟨S250000x4, .f32⟩
  | 69 => ⟨S_, .f32⟩
  | 70 => ⟨S250000x4, .f32⟩
  | 71 => ⟨S250000x4, .f32⟩
  | 72 => ⟨S250000x4, .f32⟩
  | 73 => ⟨S250000x4, .f32⟩
  | 74 => ⟨S_, .f32⟩
  | 75 => ⟨S250000x4, .f32⟩
  | 76 => ⟨S250000x4, .f32⟩
  | 77 => ⟨S250000x4, .f32⟩
  | _ => ⟨S4x8, .f32⟩

abbrev hbmTy (i : Nat) : BufTy := match i / 128 with
  | 0 => hbmTy0_0 i
  | 1 => hbmTy0_1 i
  | _ => ⟨S4x8, .f32⟩

abbrev bufTy : (tb : Table) → Fin (tcTables nBuf tb) → BufTy
  | .hbm, ⟨i, _⟩ => hbmTy i
  | _, _ => ⟨S4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_v0 : Ref sig .tc := ⟨.hbm, 33, rfl⟩
abbrev main_v16 : Ref sig .tc := ⟨.hbm, 34, rfl⟩
abbrev main_cst : Ref sig .tc := ⟨.hbm, 35, rfl⟩
abbrev main_cst_0 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_cst : Ref sig .tc := ⟨.hbm, 40, rfl⟩
abbrev main_call2_v3 : Ref sig .tc := ⟨.hbm, 41, rfl⟩
abbrev main_call2_v4 : Ref sig .tc := ⟨.hbm, 42, rfl⟩
abbrev main_call2_cst_0 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_cst_1 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_v12 : Ref sig .tc := ⟨.hbm, 52, rfl⟩
abbrev main_call2_v13 : Ref sig .tc := ⟨.hbm, 53, rfl⟩
abbrev main_call2_v14 : Ref sig .tc := ⟨.hbm, 54, rfl⟩
abbrev main_call2_v15 : Ref sig .tc := ⟨.hbm, 55, rfl⟩
abbrev main_call2_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_1 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_2 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_3 : Ref sig .tc := ⟨.hbm, 94, rfl⟩
abbrev main_v52 : Ref sig .tc := ⟨.hbm, 95, rfl⟩
abbrev main_cst_4 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_c_5 : Ref sig .tc := ⟨.hbm, 100, rfl⟩
abbrev main_call3_call0_cst : Ref sig .tc := ⟨.hbm, 101, rfl⟩
abbrev main_call3_call0_v0 : Ref sig .tc := ⟨.hbm, 102, rfl⟩
abbrev main_call3_call0_v1 : Ref sig .tc := ⟨.hbm, 103, rfl⟩
abbrev main_call3_call0_cst_0 : Ref sig .tc := ⟨.hbm, 104, rfl⟩
abbrev main_call3_call0_v2 : Ref sig .tc := ⟨.hbm, 105, rfl⟩
abbrev main_call3_call0_v3 : Ref sig .tc := ⟨.hbm, 106, rfl⟩
abbrev main_call3_call0_v4 : Ref sig .tc := ⟨.hbm, 107, rfl⟩
abbrev main_call3_call0_v5 : Ref sig .tc := ⟨.hbm, 108, rfl⟩
abbrev main_call3_call0_v6 : Ref sig .tc := ⟨.hbm, 109, rfl⟩
abbrev main_call3_call0_v7 : Ref sig .tc := ⟨.hbm, 110, rfl⟩
abbrev main_call3_call0_cst_1 : Ref sig .tc := ⟨.hbm, 111, rfl⟩
abbrev main_call3_call0_v8 : Ref sig .tc := ⟨.hbm, 112, rfl⟩
abbrev main_call3_call0_cst_2 : Ref sig .tc := ⟨.hbm, 113, rfl⟩
abbrev main_call3_call0_v9 : Ref sig .tc := ⟨.hbm, 114, rfl⟩
abbrev main_call3_call0_v10 : Ref sig .tc := ⟨.hbm, 115, rfl⟩
abbrev main_call3_call0_cst_3 : Ref sig .tc := ⟨.hbm, 116, rfl⟩
abbrev main_call3_call0_v11 : Ref sig .tc := ⟨.hbm, 117, rfl⟩
abbrev main_call3_call0_cst_4 : Ref sig .tc := ⟨.hbm, 118, rfl⟩
abbrev main_call3_call0_call0_v0 : Ref sig .tc := ⟨.hbm, 119, rfl⟩
abbrev main_call3_v0 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_c_6 : Ref sig .tc := ⟨.hbm, 130, rfl⟩
abbrev main_v65 : Ref sig .tc := ⟨.hbm, 131, rfl⟩
abbrev main_c_7 : Ref sig .tc := ⟨.hbm, 132, rfl⟩
abbrev main_v66 : Ref sig .tc := ⟨.hbm, 133, rfl⟩
abbrev main_v67 : Ref sig .tc := ⟨.hbm, 134, rfl⟩
abbrev main_c_8 : Ref sig .tc := ⟨.hbm, 135, rfl⟩
abbrev main_c_9 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_cst_10 : Ref sig .tc := ⟨.hbm, 151, rfl⟩
abbrev main_call5_v0 : Ref sig .tc := ⟨.hbm, 152, rfl⟩
abbrev main_call5_v1 : Ref sig .tc := ⟨.hbm, 153, rfl⟩
abbrev main_v77 : Ref sig .tc := ⟨.hbm, 154, rfl⟩
abbrev main_cst_11 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_12 : Ref sig .tc := ⟨.hbm, 159, rfl⟩
abbrev main_call6_v0 : Ref sig .tc := ⟨.hbm, 160, rfl⟩
abbrev main_call6_v1 : Ref sig .tc := ⟨.hbm, 161, rfl⟩
abbrev main_v81 : Ref sig .tc := ⟨.hbm, 162, rfl⟩
abbrev main_cst_13 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_cst_14 : Ref sig .tc := ⟨.hbm, 167, rfl⟩
abbrev main_call7_v0 : Ref sig .tc := ⟨.hbm, 168, rfl⟩
abbrev main_call7_v1 : Ref sig .tc := ⟨.hbm, 169, rfl⟩
abbrev main_v85 : Ref sig .tc := ⟨.hbm, 170, rfl⟩
abbrev main_cst_15 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_cst_16 : Ref sig .tc := ⟨.hbm, 175, rfl⟩
abbrev main_call8_v0 : Ref sig .tc := ⟨.hbm, 176, rfl⟩
abbrev main_call8_v1 : Ref sig .tc := ⟨.hbm, 177, rfl⟩
abbrev main_v89 : Ref sig .tc := ⟨.hbm, 178, rfl⟩
abbrev main_cst_17 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_cst_18 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_cst_19 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_cst_20 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩

abbrev nD : Nat := 1
abbrev τ : Topo := Topo.v7x

variable {F : FTy → Type} [FloatOps F]
-- ==== Proof.KI.Run0.lean ====
/-
  The kernel's body in its first phase, run once on any staging memrefs: what it leaves in the three scratch buffers.
-/
module

public import proofs.«01_k».proof.Proof.Gen.KernelIdeal.Skeleton
public import proofs.«01_k».proof.Proof.Gen.KernelIdeal.Frame

@[expose] public section

-- rectangles of the two large scratch buffers: membership looks once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- The body's first conditional: the grid's first coordinate is 0. -/
abbrev inPhase0 (i : grid0.Coords) : Prop := k0_cond1 i = 1#1
/-- The body's second conditional: the grid's first coordinate is 1. -/
abbrev inPhase1 (i : grid0.Coords) : Prop := k0_cond2 i = 1#1

set_option maxHeartbeats 1600000 in
/-- The first phase's run, with the pieces it writes as the run finds them: the inputs' memrefs are read and the result's left
    alone, both large scratch buffers get one row each (`LS0`, `LS1`) and the small one its ten words (`LS2`, which depend
    on the words it held, `xs2`). -/
noncomputable def phase0Run (c : Dev nD) (i : grid0.Coords) (arg2 : Memref sig .tc .vmem S4x1x2000x8 .f32) (harg2 : arg2.IsWhole) (arg3 : Memref sig .tc .vmem S4x1x2000x8 .f32) (harg3 : arg3.IsWhole) (arg4 : Memref sig .tc .vmem S8x8 .f32) (harg4 : arg4.IsWhole) (arg5 : Memref sig .tc .vmem S32x1 .f32) (harg5 : arg5.IsWhole) (arg6 : Memref sig .tc .vmem S4x32 .f32) (harg6 : arg6.IsWhole) (arg7 : Memref sig .tc .vmem S1x1 .f32) (harg7 : arg7.IsWhole) (arg8 : Memref sig .tc .vmem S8x8 .f32) (harg8 : arg8.IsWhole) (arg9 : Memref sig .tc .vmem S32x1 .f32) (harg9 : arg9.IsWhole) (arg10 : Memref sig .tc .vmem S4x32 .f32) (harg10 : arg10.IsWhole) (arg11 : Memref sig .tc .vmem S1x1 .f32) (harg11 : arg11.IsWhole) (arg12 : Memref sig .tc .vmem S4x20 .f32) (harg12 : arg12.IsWhole) (arg13 : Memref sig .tc .vmem S1x2000x4 .f32) (harg13 : arg13.IsWhole) (arg14 : Memref sig .tc .vmem S125x4x2000 .f32) (harg14 : arg14.IsWhole) (arg15 : Memref sig .tc .vmem S125x4x2000 .f32) (harg15 : arg15.IsWhole) (arg16 : Memref sig .tc .smem S1x16 .f32) (harg16 : arg16.IsWhole) (hc0 : inPhase0 i) (hc1 : ¬inPhase1 i)
    (x0 : Vec F S4x1x2000x8 .f32) (x1 : Vec F S4x1x2000x8 .f32) (x2 : Vec F S8x8 .f32) (x3 : Vec F S32x1 .f32) (x4 : Vec F S4x32 .f32) (x5 : Vec F S1x1 .f32) (x6 : Vec F S8x8 .f32) (x7 : Vec F S32x1 .f32) (x8 : Vec F S4x32 .f32) (x9 : Vec F S1x1 .f32) (x10 : Vec F S4x20 .f32) (xs2 : Vec F S1x16 .f32) :
    Σ' (L11 : List (View.Piece (Elt F) S1x2000x4 .f32)), Σ' (LS0 : List (View.Piece (Elt F) S125x4x2000 .f32)), Σ' (LS1 : List (View.Piece (Elt F) S125x4x2000 .f32)), { LS2 : List (View.Piece (Elt F) S1x16 .f32) //
      ∀ (xi11 : Vec F S1x2000x4 .f32) (xs0 : Vec F S125x4x2000 .f32) (xs1 : Vec F S125x4x2000 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0 ∗ owns (c : Thread nD τ) arg15 fullShare xs1 ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (arg14.view.loc (c : Thread nD τ) ↦[arg14.view.set]{fullShare} arg14.view.writes (Elt F) (harg14.unread xs0) LS0) ∗ (arg15.view.loc (c : Thread nD τ) ↦[arg15.view.set]{fullShare} arg15.view.writes (Elt F) (harg15.unread xs1) LS1) ∗ (arg16.view.loc (c : Thread nD τ) ↦[arg16.view.set]{fullShare} arg16.view.writes (Elt F) (harg16.unread xs2) LS2)) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, fun xi11 xs0 xs1 E K => ?run⟩
  case run =>
    simp only [cc0__fused_eq_skeleton]; unfold cc0__fused_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexact HS0
    isplitl [HS1]; · iexact HS1
    iexact HS2

end Cert.KernelIdeal.Hand

end
-- ==== Proof.KI.Run1.lean ====
/-
  The kernel's body in its second phase, run once on any staging memrefs: what it leaves in the result's.
-/
module

public import proofs.«01_k».proof.Proof.KI.Run0

@[expose] public section

-- rectangles of the two large scratch buffers: membership looks once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

set_option maxHeartbeats 2400000 in
/-- The second phase's run: the inputs and the three scratch buffers are read and left alone, the result's memref is written (`L11`). -/
noncomputable def phase1Run (c : Dev nD) (i : grid0.Coords) (arg2 : Memref sig .tc .vmem S4x1x2000x8 .f32) (harg2 : arg2.IsWhole) (arg3 : Memref sig .tc .vmem S4x1x2000x8 .f32) (harg3 : arg3.IsWhole) (arg4 : Memref sig .tc .vmem S8x8 .f32) (harg4 : arg4.IsWhole) (arg5 : Memref sig .tc .vmem S32x1 .f32) (harg5 : arg5.IsWhole) (arg6 : Memref sig .tc .vmem S4x32 .f32) (harg6 : arg6.IsWhole) (arg7 : Memref sig .tc .vmem S1x1 .f32) (harg7 : arg7.IsWhole) (arg8 : Memref sig .tc .vmem S8x8 .f32) (harg8 : arg8.IsWhole) (arg9 : Memref sig .tc .vmem S32x1 .f32) (harg9 : arg9.IsWhole) (arg10 : Memref sig .tc .vmem S4x32 .f32) (harg10 : arg10.IsWhole) (arg11 : Memref sig .tc .vmem S1x1 .f32) (harg11 : arg11.IsWhole) (arg12 : Memref sig .tc .vmem S4x20 .f32) (harg12 : arg12.IsWhole) (arg13 : Memref sig .tc .vmem S1x2000x4 .f32) (harg13 : arg13.IsWhole) (arg14 : Memref sig .tc .vmem S125x4x2000 .f32) (harg14 : arg14.IsWhole) (arg15 : Memref sig .tc .vmem S125x4x2000 .f32) (harg15 : arg15.IsWhole) (arg16 : Memref sig .tc .smem S1x16 .f32) (harg16 : arg16.IsWhole) (hc0 : ¬inPhase0 i) (hc1 : inPhase1 i)
    (x0 : Vec F S4x1x2000x8 .f32) (x1 : Vec F S4x1x2000x8 .f32) (x2 : Vec F S8x8 .f32) (x3 : Vec F S32x1 .f32) (x4 : Vec F S4x32 .f32) (x5 : Vec F S1x1 .f32) (x6 : Vec F S8x8 .f32) (x7 : Vec F S32x1 .f32) (x8 : Vec F S4x32 .f32) (x9 : Vec F S1x1 .f32) (x10 : Vec F S4x20 .f32) (xs0 : Vec F S125x4x2000 .f32) (xs1 : Vec F S125x4x2000 .f32) (xs2 : Vec F S1x16 .f32) :
    Σ' (L11 : List (View.Piece (Elt F) S1x2000x4 .f32)), Σ' (LS0 : List (View.Piece (Elt F) S125x4x2000 .f32)), Σ' (LS1 : List (View.Piece (Elt F) S125x4x2000 .f32)), { LS2 : List (View.Piece (Elt F) S1x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ owns (c : Thread nD τ) arg14 fullShare xs0 ∗ owns (c : Thread nD τ) arg15 fullShare xs1 ∗ owns (c : Thread nD τ) arg16 fullShare xs2) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], [], [], fun E K => ?run⟩
  case run =>
    simp only [cc0__fused_eq_skeleton]; unfold cc0__fused_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1; obtain rfl := harg16.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]
    · iexists _; isplitr; · ipureintro; exact harg14.read_unread _
      iexact HS0
    isplitl [HS1]
    · iexists _; isplitr; · ipureintro; exact harg15.read_unread _
      iexact HS1
    iexists _; isplitr; · ipureintro; exact harg16.read_unread _
    iexact HS2

end Cert.KernelIdeal.Hand

end
-- ==== Proof.KI.Steps.lean ====
/-
  What one step of the body computes, as functions of values alone: a chunk's two rows, the ten running words after a chunk,
  and an output block from the stored rows and the words.
-/
module

public import proofs.«01_k».proof.Proof.KI.Run0
public import proofs.«01_k».proof.Proof.KI.Run1
public import Idealize.ShloMosaic.Lib.VecWindow
public import Idealize.ShloMosaic.Lib.ValueIdx
public import Idealize.ShloMosaic.Lib.Pipeline.ValueKit

@[expose] public section

-- rectangles of the two large scratch buffers: membership looks once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- One latent chunk (four batch rows of 2000 positions) of the four, as the kernel loads it. -/
def chunkRow (z : Vec F S4x1x2000x8 .f32) (b : Fin 4) : Vec F S1x1x2000x8 .f32 := fun y => z (ValueIdx.ix4 b (0 : Fin 1) (y 2) (y 3))

/-- A column of the knot heights, as the kernel loads it. -/
def heightCol (yp : Vec F S4x20 .f32) (k : Fin 20) : Vec F S4x1 .f32 := fun y => yp (ValueIdx.ix2 (y 0) k)

/-- Word `j` of the small scratch buffer. -/
abbrev wordIx (j : Fin 16) : S1x16.Idx := ValueIdx.ix2 (0 : Fin 1) j

/-- The x row block a chunk gives. -/
def xRowOf (z : Vec F S4x1x2000x8 .f32) (w1 : Vec F S8x8 .f32) (b1 : Vec F S32x1 .f32) (m2 : Vec F S4x32 .f32) (b2 : Vec F S1x1 .f32) :
    FVec F S4x2000 .f32 :=
  k0_pay7 (k0_pay6 w1 (chunkRow z 0) w1 (chunkRow z 1) w1 (chunkRow z 2) w1 (chunkRow z 3) b1 m2) b2

/-- The noise row block a chunk gives. -/
def eRowOf (z : Vec F S4x1x2000x8 .f32) (w1 : Vec F S8x8 .f32) (b1 : Vec F S32x1 .f32) (m2 : Vec F S4x32 .f32) (b2 : Vec F S1x1 .f32) :
    FVec F S4x2000 .f32 :=
  k0_pay9 (k0_pay8 w1 (chunkRow z 0) w1 (chunkRow z 1) w1 (chunkRow z 2) w1 (chunkRow z 3) b1) m2 b2

/-- The first chunk's flag. -/
abbrev firstFlag (i : grid0.Coords) : BitVec 1 := Scalar.cmpi .eq (BitVec.ofNat 32 (i 1).val) 0#32

/-- The words after a chunk with rows `x` and `e`, from the words `A` before it. -/
def wordNew (i : grid0.Coords) (x e : FVec F S4x2000 .f32) (A : Vec F S1x16 .f32) (j : Fin 16) : F .f32 :=
  match j with
  | ⟨0, _⟩ => k0_pay12 (BitVec.ofNat 32 (i 1).val) x (A (wordIx ⟨0, by decide⟩))
  | ⟨1, _⟩ => k0_pay15 (firstFlag i) (k0_pay14 x) (A (wordIx ⟨1, by decide⟩))
  | ⟨2, _⟩ => k0_pay17 x (firstFlag i) (A (wordIx ⟨2, by decide⟩))
  | ⟨3, _⟩ => k0_pay1 (firstFlag i) (k0_pay19 x) (A (wordIx ⟨3, by decide⟩))
  | ⟨4, _⟩ => k0_pay13 (BitVec.ofNat 32 (i 1).val) x (A (wordIx ⟨4, by decide⟩))
  | ⟨5, _⟩ => k0_pay16 x (firstFlag i) (A (wordIx ⟨5, by decide⟩))
  | ⟨6, _⟩ => k0_pay18 x (firstFlag i) (A (wordIx ⟨6, by decide⟩))
  | ⟨7, _⟩ => k0_pay2 x (firstFlag i) (A (wordIx ⟨7, by decide⟩))
  | ⟨8, _⟩ => k0_pay3 e (firstFlag i) (A (wordIx ⟨8, by decide⟩))
  | ⟨9, _⟩ => k0_pay4 e (firstFlag i) (A (wordIx ⟨9, by decide⟩))
  | ⟨n + 10, h⟩ => A (wordIx ⟨n + 10, h⟩)

/-- The same as the buffer's contents. -/
def wordsNew (i : grid0.Coords) (x e : FVec F S4x2000 .f32) (A : Vec F S1x16 .f32) : Vec F S1x16 .f32 := fun q => wordNew i x e A (q 1 : Fin 16)

/-- An output block: the ten words `A`, the stored rows `xr`, `er` of its chunk and the knot heights give 2000 positions of
    the four curves plus noise. -/
def curveOf (A : Vec F S1x16 .f32) (xr er : Vec F S1x4x2000 .f32) (yp : Vec F S4x20 .f32) : FVec F S1x2000x4 .f32 :=
  have w18 : F .f32 := FloatOps.ofBits FTy.f32 1065353216#32
  have w119 : F .f32 := Named.named κ "knot1" 1029149750#32
  have w120 : F .f32 := FloatOps.ofBits FTy.f32 869711765#32
  have s0 := A (wordIx ⟨8, by decide⟩)
  have s1 := A (wordIx ⟨9, by decide⟩)
  have s2 := A (wordIx ⟨0, by decide⟩)
  have s3 := A (wordIx ⟨1, by decide⟩)
  have s4 := A (wordIx ⟨2, by decide⟩)
  have s5 := A (wordIx ⟨3, by decide⟩)
  have s6 := A (wordIx ⟨4, by decide⟩)
  have s7 := A (wordIx ⟨5, by decide⟩)
  have s8 := A (wordIx ⟨6, by decide⟩)
  have s9 := A (wordIx ⟨7, by decide⟩)
  have s10 := k0_pay21 s0 s1
  have s11 := k0_pay22 s0 s1
  have s12 := k0_pay23 s2 s3 s4 s5
  have s13 := k0_pay24 s2 s3 s4 s5 s6 s7 s8 s9
  have s14 := k0_pay25 s13 w18
  have s15 := k0_pay26 xr
  have s16 := k0_pay27 s10 s11 s12 s13 w18 xr er (heightCol yp ⟨0, by decide⟩) (heightCol yp ⟨1, by decide⟩) (heightCol yp ⟨0, by decide⟩)
  have s17 := k0_pay28 s12 s13
  have s18 := k0_pay30 s12 s13 s14 s15 s16 s17 k0_pay29 (heightCol yp ⟨2, by decide⟩) (heightCol yp ⟨1, by decide⟩) (heightCol yp ⟨3, by decide⟩) (heightCol yp ⟨2, by decide⟩)
  have s19 := k0_pay32 s12 s13 s14 s15 s18 k0_pay31 (heightCol yp ⟨4, by decide⟩) (heightCol yp ⟨3, by decide⟩)
  have s20 := k0_pay33 s12 s13 s15
  have s21 := k0_pay34 s14 (heightCol yp ⟨5, by decide⟩) (heightCol yp ⟨4, by decide⟩)
  have s22 := k0_pay35 s12 s13 s14 s15 s19 s20 s21 (heightCol yp ⟨6, by decide⟩) (heightCol yp ⟨5, by decide⟩)
  have s23 := k0_pay36 s14 (heightCol yp ⟨7, by decide⟩) (heightCol yp ⟨6, by decide⟩)
  have s24 := k0_pay37 s12 s13 s15
  have s25 := k0_pay38 s12 s13 s14 s15 s22 s23 s24 (heightCol yp ⟨8, by decide⟩) (heightCol yp ⟨7, by decide⟩)
  have s26 := k0_pay39 s12 s13
  have s27 := k0_pay40 s13
  have s28 := k0_pay41 s14 (heightCol yp ⟨9, by decide⟩) (heightCol yp ⟨8, by decide⟩)
  have s29 := k0_pay42 s12 s13 s14 s15 s25 s26 s27 s28 (heightCol yp ⟨10, by decide⟩) (heightCol yp ⟨9, by decide⟩)
  have s30 := k0_pay43 s12 s13
  have s31 := k0_pay44 s13
  have s32 := k0_pay45 (heightCol yp ⟨11, by decide⟩) (heightCol yp ⟨10, by decide⟩)
  have s33 := k0_pay46 s12 s13 s14 s15 s29 s30 s31 s32 w119 w120 (heightCol yp ⟨12, by decide⟩) (heightCol yp ⟨11, by decide⟩)
  have s34 := k0_pay47 s12 s13
  have s35 := k0_pay48 s13
  have s36 := k0_pay49 (heightCol yp ⟨13, by decide⟩)
  have s37 := heightCol yp ⟨12, by decide⟩
  have s38 := k0_pay50 s12 s13 s14 s15 s33 s34 s35 s36 s37 (heightCol yp ⟨14, by decide⟩) (heightCol yp ⟨13, by decide⟩)
  have s39 := k0_pay51 s12 s13
  have s40 := k0_pay52 s13
  have s41 := heightCol yp ⟨15, by decide⟩
  have s42 := k0_pay53 s12 s13 s14 s15 s38 s39 s40 s41 (heightCol yp ⟨14, by decide⟩) (heightCol yp ⟨16, by decide⟩) (heightCol yp ⟨15, by decide⟩)
  have s43 := k0_pay54 s12 s13
  have s44 := k0_pay56 s12 s13 s14 s15 s42 s43 k0_pay55 (heightCol yp ⟨17, by decide⟩) (heightCol yp ⟨16, by decide⟩) (heightCol yp ⟨18, by decide⟩) (heightCol yp ⟨17, by decide⟩)
  k0_pay5 s12 s13 s14 s15 s44 k0_pay57 (heightCol yp ⟨19, by decide⟩) (heightCol yp ⟨18, by decide⟩)

/-- A load of one batch's latents. -/
theorem ld_chunkRow (z : Vec F S4x1x2000x8 .f32) (b : Fin 4) (inb : ∀ a, (![b.val, 0, 0, 0] : Fin 4 → ℕ) a + S1x1x2000x8.size a ≤ S4x1x2000x8.size a) :
    View.ld (Val := Elt F) (e' := .f32) z (Rect.unit (s := S4x1x2000x8) ![b.val, 0, 0, 0] S1x1x2000x8.size inb) = chunkRow z b := by
  funext y
  exact congrArg z (funext fun a => Fin.ext (by
    simp only [Rect.idx_unit_val]
    fin_cases a
    · show b.val + (y 0).val = b.val
      have : (y 0).val < 1 := (y 0).isLt
      omega
    · show 0 + (y 1).val = 0
      have : (y 1).val < 1 := (y 1).isLt
      omega
    · exact Nat.zero_add _
    · exact Nat.zero_add _))

/-- A load of one column of heights. -/
theorem ld_heightCol (yp : Vec F S4x20 .f32) (k : ℕ) (hk : k < 20) (inb) :
    View.ld (Val := Elt F) (e' := .f32) yp (Rect.unit (s := S4x20) ![0, k] ![4, 1] inb) = heightCol yp ⟨k, hk⟩ := by
  funext y
  exact congrArg yp (funext fun a => Fin.ext (by
    simp only [Rect.idx_unit_val]
    fin_cases a
    · exact Nat.zero_add _
    · show k + (y 1).val = k
      have : (y 1).val < 1 := (y 1).isLt
      omega))

/-- A load of one word. -/
theorem ld_word (A : Vec F S1x16 .f32) (j : ℕ) (hj : j < 16) (inb) :
    View.ld (Val := Elt F) (e' := .f32) A (Rect.unit (s := S1x16) ![0, j] ![1, 1] inb) = fun _ => A (wordIx ⟨j, hj⟩) := by
  funext y
  exact congrArg A (funext fun a => Fin.ext (by
    simp only [Rect.idx_unit_val]
    fin_cases a
    · show 0 + (y 0).val = 0
      have : (y 0).val < 1 := (y 0).isLt
      omega
    · show j + (y 1).val = j
      have : (y 1).val < 1 := (y 1).isLt
      omega))

end Cert.KernelIdeal.Hand

end
-- ==== Proof.KI.Invar.lean ====
/-
  The contents of the scratch buffers point by point, and what the two phases do to them.
-/
module

public import proofs.«01_k».proof.Proof.KI.Steps
public import Idealize.ShloMosaic.Lib.ValueLayout
public import Idealize.ShloMosaic.Lib.VecWindow
public import Idealize.ShloMosaic.Lib.ValueIdx
public import Idealize.ShloMosaic.Lib.Pipeline.ValueKit

@[expose] public section

-- rectangles of the two large scratch buffers: membership looks once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ
variable (m : (ℓ : Loc nD τ sig) → Buf (Elt F) ℓ)

/-! ## The points -/

/-- The second coordinate of a point is its chunk. -/
theorem coords_chunk (t : Fin cfg0.N) : (grid0.coords t 1).val = t.val % 125 := by
  have e1 : (grid0.coords t 1).val = t.val / 1 % 125 := Pipeline.Grid.coords_val t 1 (by decide) rfl
  rw [e1, Nat.div_one]

/-- The first 125 points are the first phase. -/
theorem inPhase0_iff (t : Fin cfg0.N) : inPhase0 (grid0.coords t) ↔ t.val < 125 := by
  have ht : t.val < 250 := Nat.lt_of_lt_of_eq t.isLt N_0
  have e0 : (grid0.coords t 0).val = t.val / 125 % 2 := Pipeline.Grid.coords_val t 0 (by decide) rfl
  have e1 : (grid0.coords t 1).val = t.val / 1 % 125 := Pipeline.Grid.coords_val t 1 (by decide) rfl
  simp only [inPhase0, k0_cond1, e0, e1]
  word_cmp

/-- The points from the 126th on are the second phase. -/
theorem inPhase1_iff (t : Fin cfg0.N) : inPhase1 (grid0.coords t) ↔ 125 ≤ t.val := by
  have ht : t.val < 250 := Nat.lt_of_lt_of_eq t.isLt N_0
  have e0 : (grid0.coords t 0).val = t.val / 125 % 2 := Pipeline.Grid.coords_val t 0 (by decide) rfl
  have e1 : (grid0.coords t 1).val = t.val / 1 % 125 := Pipeline.Grid.coords_val t 1 (by decide) rfl
  simp only [inPhase1, k0_cond2, e0, e1]
  word_cmp

/-- The row a point of the first phase stores into. -/
theorem off1_row (i : grid0.Coords) : k0_off1 i = ![(i 1).val, 0, 0] := by
  have h : (i 1).val < 125 := (i 1).isLt
  have e : (BitVec.ofNat 32 (i 1).val).toNat = (i 1).val := by rw [BitVec.toNat_ofNat]; omega
  unfold k0_off1
  exact congrArg (fun n => (![n, 0, 0] : Fin 3 → ℕ)) e

/-- The row a point of the second phase loads from. -/
theorem off2_row (i : grid0.Coords) : k0_off2 i = ![(i 1).val, 0, 0] := off1_row i

/-! ## Rows of the two large scratch buffers -/

/-- A stored row read back: the row's own elements, and every other row as before. -/
theorem put_row (X : Vec F S125x4x2000 .f32) (i : grid0.Coords) (v : FVec F S4x2000 .f32) (a : Fin 125) (r : Fin 4) (p : Fin 2000) :
    VecWindow.put X (k0_off1 i) S1x4x2000.size (k0_pay10 v) (ValueIdx.ix3 a r p)
      = if a.val = (i 1).val then v (ValueIdx.ix2 r p) else X (ValueIdx.ix3 a r p) := by
  rw [off1_row]
  unfold VecWindow.put
  by_cases h : a.val = (i 1).val
  · rw [dif_pos, if_pos h]
    · unfold k0_pay10
      dsimp only
      refine Eq.trans (congrArg _ ?_) (ValueIdx.shapeCast_ab_1ab_apply v shapeCasts_S4x2000_S1x4x2000 0 r p)
      funext b
      fin_cases b
      · exact Subsingleton.elim (α := Fin 1) _ _
      · exact Fin.ext (Nat.sub_zero _)
      · exact Fin.ext (Nat.sub_zero _)
    · intro b
      fin_cases b
      · exact ⟨h.ge, by show a.val < (i 1).val + 1; omega⟩
      · exact ⟨Nat.zero_le _, by show r.val < 0 + 4; omega⟩
      · exact ⟨Nat.zero_le _, by show p.val < 0 + 2000; omega⟩
  · rw [dif_neg, if_neg h]
    intro hall
    have h1 : (i 1).val ≤ a.val ∧ a.val < (i 1).val + 1 := hall 0
    omega

/-- A loaded row, when the buffer holds `v` there. -/
theorem ld_row (X : Vec F S125x4x2000 .f32) (i : grid0.Coords) (inb) (v : FVec F S4x2000 .f32) (a : Fin 125) (ha : a.val = (i 1).val)
    (hX : ∀ r p, X (ValueIdx.ix3 a r p) = v (ValueIdx.ix2 r p)) :
    View.ld (Val := Elt F) (e' := .f32) X (Rect.unit (s := S125x4x2000) (k0_off2 i) S1x4x2000.size inb) = k0_pay10 v := by
  funext y
  have hy : y = ValueIdx.ix3 (0 : Fin 1) (y 1 : Fin 4) (y 2 : Fin 2000) := by
    funext b
    fin_cases b
    · exact Subsingleton.elim (α := Fin 1) _ _
    · rfl
    · rfl
  have hr : k0_pay10 v y = v (ValueIdx.ix2 (y 1 : Fin 4) (y 2 : Fin 2000)) := by
    unfold k0_pay10
    exact (congrArg _ hy).trans (ValueIdx.shapeCast_ab_1ab_apply v shapeCasts_S4x2000_S1x4x2000 0 _ _)
  refine Eq.trans ?_ ((hX (y 1 : Fin 4) (y 2 : Fin 2000)).trans hr.symm)
  refine congrArg X (funext fun b => Fin.ext ?_)
  simp only [Rect.idx_unit_val, off2_row]
  have h0 : (y 0).val < 1 := (y 0).isLt
  fin_cases b
  · show (i 1).val + (y 0).val = a.val
    omega
  · exact Nat.zero_add _
  · exact Nat.zero_add _

/-! ## The words -/

/-- Two contents of the small buffer that agree on the ten words in use. -/
def SameWords (A B : Vec F S1x16 .f32) : Prop := ∀ j : Fin 16, j.val < 10 → A (wordIx j) = B (wordIx j)

/-- The words after a chunk depend on the ten words before it. -/
theorem wordsNew_same (i : grid0.Coords) (x e : FVec F S4x2000 .f32) {A B : Vec F S1x16 .f32} (h : SameWords A B) :
    SameWords (wordsNew i x e A) (wordsNew i x e B) := by
  intro j hj
  have hk : ∀ k (hk : k < 10), A (wordIx ⟨k, by omega⟩) = B (wordIx ⟨k, by omega⟩) := fun k hk => h ⟨k, by omega⟩ hk
  obtain ⟨j, hj'⟩ := j
  show wordNew i x e A ⟨j, hj'⟩ = wordNew i x e B ⟨j, hj'⟩
  unfold wordNew
  interval_cases j <;> dsimp only <;> rw [hk _ (by decide)]

/-- After the first chunk the ten words do not depend on what was there before. -/
theorem wordsNew_first (i : grid0.Coords) (hi : (i 1).val = 0) (x e : FVec F S4x2000 .f32) (A B : Vec F S1x16 .f32) :
    SameWords (wordsNew i x e A) (wordsNew i x e B) := by
  intro j hj
  have hf : firstFlag i = 1#1 := by unfold firstFlag; rw [hi]; rfl
  have hs : ∀ u v : F .f32, Scalar.select (1#1 : BitVec 1) u v = u := fun _ _ => rfl
  obtain ⟨j, hj'⟩ := j
  show wordNew i x e A ⟨j, hj'⟩ = wordNew i x e B ⟨j, hj'⟩
  unfold wordNew
  have hz : Scalar.cmpi CmpIPredicate.eq (BitVec.ofNat 32 (i 1).val) 0#32 = 1#1 := hf
  interval_cases j <;> dsimp only <;>
    simp only [hz, hs, k0_pay12, k0_pay15, k0_pay17, k0_pay1, k0_pay13, k0_pay16, k0_pay18, k0_pay2, k0_pay3, k0_pay4]

/-- An output block depends on the ten words only. -/
theorem curveOf_same {A B : Vec F S1x16 .f32} (h : SameWords A B) (xr er : Vec F S1x4x2000 .f32) (yp : Vec F S4x20 .f32) :
    curveOf A xr er yp = curveOf B xr er yp := by
  have hk : ∀ k (hk : k < 10), A (wordIx ⟨k, by omega⟩) = B (wordIx ⟨k, by omega⟩) := fun k hk => h ⟨k, by omega⟩ hk
  unfold curveOf
  dsimp only
  rw [hk 0 (by decide), hk 1 (by decide), hk 2 (by decide), hk 3 (by decide), hk 4 (by decide), hk 5 (by decide), hk 6 (by decide),
    hk 7 (by decide), hk 8 (by decide), hk 9 (by decide)]

/-! ## The contents point by point -/

/-- Chunk `i`'s point of the first phase. -/
def chunkPt (i : Fin 125) : Fin cfg0.N := ⟨i.val, Nat.lt_of_lt_of_eq (Nat.lt_trans i.isLt (by decide)) N_0.symm⟩

/-- The x row of chunk `i`. -/
def xRowAt (c : Dev nD) (i : Fin 125) : FVec F S4x2000 .f32 :=
  xRowOf (iblk m c 0 (chunkPt i)) (iblk m c 2 (chunkPt i)) (iblk m c 3 (chunkPt i)) (iblk m c 4 (chunkPt i)) (iblk m c 5 (chunkPt i))

/-- The noise row of chunk `i`. -/
def eRowAt (c : Dev nD) (i : Fin 125) : FVec F S4x2000 .f32 :=
  eRowOf (iblk m c 1 (chunkPt i)) (iblk m c 6 (chunkPt i)) (iblk m c 7 (chunkPt i)) (iblk m c 8 (chunkPt i)) (iblk m c 9 (chunkPt i))

/-- The words after the first `n` chunks. -/
def wordsAt (c : Dev nD) : ℕ → Vec F S1x16 .f32
  | 0 => fun _ => FloatOps.ofBits .f32 0#32
  | n + 1 => if h : n < 125 then wordsNew (grid0.coords (chunkPt ⟨n, h⟩)) (xRowAt m c ⟨n, h⟩) (eRowAt m c ⟨n, h⟩) (wordsAt c n) else wordsAt c n

/-- What is known of the scratch buffers when point `n` starts: the rows of the chunks gone by, and the words. -/
structure Holds (c : Dev nD) (n : ℕ) (X E : Vec F S125x4x2000 .f32) (A : Vec F S1x16 .f32) : Prop where
  /-- The x rows stored so far. -/
  x : ∀ i : Fin 125, i.val < n → ∀ r p, X (ValueIdx.ix3 i r p) = xRowAt m c i (ValueIdx.ix2 r p)
  /-- The noise rows stored so far. -/
  e : ∀ i : Fin 125, i.val < n → ∀ r p, E (ValueIdx.ix3 i r p) = eRowAt m c i (ValueIdx.ix2 r p)
  /-- The words so far. -/
  w : 0 < n → SameWords A (wordsAt m c n)

/-- Nothing is known at the start. -/
theorem Holds.start (c : Dev nD) (X E : Vec F S125x4x2000 .f32) (A : Vec F S1x16 .f32) : Holds m c 0 X E A :=
  ⟨fun _ h => absurd h (Nat.not_lt_zero _), fun _ h => absurd h (Nat.not_lt_zero _), fun h => absurd h (Nat.lt_irrefl _)⟩

/-- A point of the first phase adds its chunk. -/
theorem Holds.store {c : Dev nD} {X E : Vec F S125x4x2000 .f32} {A : Vec F S1x16 .f32} (i : Fin 125) (h : Holds m c i.val X E A) :
    Holds m c (i.val + 1) (VecWindow.put X (k0_off1 (grid0.coords (chunkPt i))) S1x4x2000.size (k0_pay10 (xRowAt m c i)))
      (VecWindow.put E (k0_off1 (grid0.coords (chunkPt i))) S1x4x2000.size (k0_pay10 (eRowAt m c i)))
      (wordsNew (grid0.coords (chunkPt i)) (xRowAt m c i) (eRowAt m c i) A) := by
  have hc : (grid0.coords (chunkPt i) 1).val = i.val := (coords_chunk (chunkPt i)).trans (Nat.mod_eq_of_lt i.isLt)
  refine ⟨fun a ha r p => ?_, fun a ha r p => ?_, fun _ => ?_⟩
  · rw [put_row, hc]
    by_cases hai : a.val = i.val
    · rw [if_pos hai, Fin.ext hai]
    · rw [if_neg hai, h.x a (by omega)]
  · rw [put_row, hc]
    by_cases hai : a.val = i.val
    · rw [if_pos hai, Fin.ext hai]
    · rw [if_neg hai, h.e a (by omega)]
  · have hw : wordsAt m c (i.val + 1) = wordsNew (grid0.coords (chunkPt i)) (xRowAt m c i) (eRowAt m c i) (wordsAt m c i.val) := by
      rw [wordsAt, dif_pos i.isLt]
    rw [hw]
    rcases Nat.eq_zero_or_pos i.val with h0 | h0
    · exact wordsNew_first _ (hc.trans h0) _ _ _ _
    · exact wordsNew_same _ _ _ (h.w h0)

/-- A point of the second phase keeps everything. -/
theorem Holds.keep {c : Dev nD} {n : ℕ} (hn : 125 ≤ n) {X E : Vec F S125x4x2000 .f32} {A : Vec F S1x16 .f32} (h : Holds m c n X E A) :
    Holds m c (n + 1) X E A := by
  refine ⟨fun a _ => h.x a (by omega), fun a _ => h.e a (by omega), fun _ => ?_⟩
  have hw : wordsAt m c (n + 1) = wordsAt m c n := by rw [wordsAt, dif_neg (by omega)]
  rw [hw]
  exact h.w (by omega)

/-- The words stay from the last chunk on. -/
theorem wordsAt_last (c : Dev nD) (n : ℕ) : wordsAt m c (125 + n) = wordsAt m c 125 := by
  induction n with
  | zero => rfl
  | succ n ih => rw [← Nat.add_assoc, wordsAt, dif_neg (by omega), ih]

/-- The output block a point of the second phase writes. -/
def blockAt (c : Dev nD) (t : Fin cfg0.N) : FVec F S1x2000x4 .f32 :=
  curveOf (wordsAt m c 125) (k0_pay10 (xRowAt m c ⟨t.val % 125, Nat.mod_lt _ (by decide)⟩))
    (k0_pay10 (eRowAt m c ⟨t.val % 125, Nat.mod_lt _ (by decide)⟩)) (iblk m c 10 t)

/-- In the second phase the buffers' contents give that block. -/
theorem Holds.curve {c : Dev nD} (t : Fin cfg0.N) (ht : 125 ≤ t.val) {X E : Vec F S125x4x2000 .f32} {A : Vec F S1x16 .f32} (h : Holds m c t.val X E A) (inb) :
    curveOf A (View.ld (Val := Elt F) (e' := .f32) X (Rect.unit (s := S125x4x2000) (k0_off2 (grid0.coords t)) S1x4x2000.size inb))
      (View.ld (Val := Elt F) (e' := .f32) E (Rect.unit (s := S125x4x2000) (k0_off2 (grid0.coords t)) S1x4x2000.size inb)) (iblk m c 10 t)
      = blockAt m c t := by
  obtain ⟨n, hn⟩ := Nat.exists_eq_add_of_le ht
  have hw : SameWords A (wordsAt m c 125) := by rw [← wordsAt_last m c n, ← hn]; exact h.w (by omega)
  have hlt : t.val % 125 < t.val := by have := Nat.mod_lt t.val (y := 125) (by decide); omega
  rw [curveOf_same hw, ld_row X _ inb _ ⟨t.val % 125, Nat.mod_lt _ (by decide)⟩ (coords_chunk t).symm (h.x _ hlt),
    ld_row E _ inb _ ⟨t.val % 125, Nat.mod_lt _ (by decide)⟩ (coords_chunk t).symm (h.e _ hlt)]
  rfl

end Cert.KernelIdeal.Hand

end
-- ==== Proof.KI.Piece0.lean ====
/-
  What the first phase leaves in the scratch buffers, as functions of values alone.
-/
module

public import proofs.«01_k».proof.Proof.KI.Steps
public import Idealize.ShloMosaic.Lib.VecWindow
public import Idealize.ShloMosaic.Lib.ValueIdx
public import Idealize.ShloMosaic.Lib.Pipeline.ValueKit

@[expose] public section

-- rectangles of the two large scratch buffers: membership looks once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- A one-word store read back, word by word. -/
theorem put_word (A : Vec F S1x16 .f32) (k : ℕ) (w : ((a : Fin S1x16.rank) → Fin ((![1, 1] : Fin S1x16.rank → ℕ) a)) → Elt F .f32) :
    VecWindow.put A ![0, k] ![1, 1] w = fun q => if (q 1).val = k then w (fun a => ⟨0, by fin_cases a <;> exact Nat.one_pos⟩) else A q := by
  funext q
  unfold VecWindow.put
  have h0 : (q 0).val < 1 := (q 0).isLt
  by_cases h : (q 1).val = k
  · rw [dif_pos, if_pos h]
    · refine congrArg w (funext fun a => ?_)
      fin_cases a <;> exact Subsingleton.elim (α := Fin 1) _ _
    · intro a
      fin_cases a
      · exact ⟨Nat.zero_le _, h0⟩
      · exact ⟨h.ge, by show (q 1).val < k + 1; omega⟩
  · rw [dif_neg, if_neg h]
    intro hall
    have h1 : k ≤ (q 1).val ∧ (q 1).val < k + 1 := hall 1
    omega

theorem ld_whole_S8x8 (X : Vec F S8x8 .f32) (inb) : View.ld (Val := Elt F) (e' := .f32) X (Rect.unit (s := S8x8) ![0, 0] ![8, 8] inb) = X :=
  View.ld_unit_lit' (S := S8x8) inb X (by decide)

theorem ld_whole_S32x1 (X : Vec F S32x1 .f32) (inb) : View.ld (Val := Elt F) (e' := .f32) X (Rect.unit (s := S32x1) ![0, 0] ![32, 1] inb) = X :=
  View.ld_unit_lit' (S := S32x1) inb X (by decide)

theorem ld_whole_S4x32 (X : Vec F S4x32 .f32) (inb) : View.ld (Val := Elt F) (e' := .f32) X (Rect.unit (s := S4x32) ![0, 0] ![4, 32] inb) = X :=
  View.ld_unit_lit' (S := S4x32) inb X (by decide)

theorem ld_whole_S1x1 (X : Vec F S1x1 .f32) (inb) : View.ld (Val := Elt F) (e' := .f32) X (Rect.unit (s := S1x1) ![0, 0] ![1, 1] inb) = X :=
  View.ld_unit_lit' (S := S1x1) inb X (by decide)

theorem ld_chunkRow0 (z : Vec F S4x1x2000x8 .f32) (inb) : View.ld (Val := Elt F) (e' := .f32) z (Rect.unit (s := S4x1x2000x8) ![0, 0, 0, 0] ![1, 1, 2000, 8] inb) = chunkRow z 0 := ld_chunkRow z 0 inb

theorem ld_chunkRow1 (z : Vec F S4x1x2000x8 .f32) (inb) : View.ld (Val := Elt F) (e' := .f32) z (Rect.unit (s := S4x1x2000x8) ![1, 0, 0, 0] ![1, 1, 2000, 8] inb) = chunkRow z 1 := ld_chunkRow z 1 inb

theorem ld_chunkRow2 (z : Vec F S4x1x2000x8 .f32) (inb) : View.ld (Val := Elt F) (e' := .f32) z (Rect.unit (s := S4x1x2000x8) ![2, 0, 0, 0] ![1, 1, 2000, 8] inb) = chunkRow z 2 := ld_chunkRow z 2 inb

theorem ld_chunkRow3 (z : Vec F S4x1x2000x8 .f32) (inb) : View.ld (Val := Elt F) (e' := .f32) z (Rect.unit (s := S4x1x2000x8) ![3, 0, 0, 0] ![1, 1, 2000, 8] inb) = chunkRow z 3 := ld_chunkRow z 3 inb

/-- What the first phase leaves in the x rows. -/
theorem phase0_x  (c : Dev nD) (i : grid0.Coords) (arg2 : Memref sig .tc .vmem S4x1x2000x8 .f32) (harg2 : arg2.IsWhole) (arg3 : Memref sig .tc .vmem S4x1x2000x8 .f32) (harg3 : arg3.IsWhole) (arg4 : Memref sig .tc .vmem S8x8 .f32) (harg4 : arg4.IsWhole) (arg5 : Memref sig .tc .vmem S32x1 .f32) (harg5 : arg5.IsWhole) (arg6 : Memref sig .tc .vmem S4x32 .f32) (harg6 : arg6.IsWhole) (arg7 : Memref sig .tc .vmem S1x1 .f32) (harg7 : arg7.IsWhole) (arg8 : Memref sig .tc .vmem S8x8 .f32) (harg8 : arg8.IsWhole) (arg9 : Memref sig .tc .vmem S32x1 .f32) (harg9 : arg9.IsWhole) (arg10 : Memref sig .tc .vmem S4x32 .f32) (harg10 : arg10.IsWhole) (arg11 : Memref sig .tc .vmem S1x1 .f32) (harg11 : arg11.IsWhole) (arg12 : Memref sig .tc .vmem S4x20 .f32) (harg12 : arg12.IsWhole) (arg13 : Memref sig .tc .vmem S1x2000x4 .f32) (harg13 : arg13.IsWhole) (arg14 : Memref sig .tc .vmem S125x4x2000 .f32) (harg14 : arg14.IsWhole) (arg15 : Memref sig .tc .vmem S125x4x2000 .f32) (harg15 : arg15.IsWhole) (arg16 : Memref sig .tc .smem S1x16 .f32) (harg16 : arg16.IsWhole) (hc0 : inPhase0 i) (hc1 : ¬inPhase1 i)
    (x0 : Vec F S4x1x2000x8 .f32) (x1 : Vec F S4x1x2000x8 .f32) (x2 : Vec F S8x8 .f32) (x3 : Vec F S32x1 .f32) (x4 : Vec F S4x32 .f32) (x5 : Vec F S1x1 .f32) (x6 : Vec F S8x8 .f32) (x7 : Vec F S32x1 .f32) (x8 : Vec F S4x32 .f32) (x9 : Vec F S1x1 .f32) (x10 : Vec F S4x20 .f32) (xs2 : Vec F S1x16 .f32) (xs0 : Vec F S125x4x2000 .f32) :
    arg14.view.read (Elt F) (arg14.view.writes (Elt F) (harg14.unread xs0) (phase0Run c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs2).2.1)
      = VecWindow.put xs0 (k0_off1 i) S1x4x2000.size (k0_pay10 (xRowOf x0 x2 x3 x4 x5)) := by
  unfold phase0Run
  dsimp only
  rw [View.read_writes_cons_put _ _ _ _ _ rfl, View.writes_nil, Memref.IsWhole.read_unread]
  simp only [phase0Run.sl.r, phase0Run.sl.r_1, phase0Run.sl.r_2, phase0Run.sl.r_3, phase0Run.sl.r_6, phase0Run.sl.f, phase0Run.sl.f_1, phase0Run.sl.f_2, phase0Run.sl.f_3, phase0Run.sl.f_4, phase0Run.sl.f_5, phase0Run.sl.f_6, phase0Run.sl.f_7, phase0Run.sl.f_8, phase0Run.sl.r_4, phase0Run.sl.r_5, phase0Run.sl.r_7, phase0Run.sl.r_8, phase0Run.sl.r_9, phase0Run.sl.r_10, phase0Run.sl.r_11, phase0Run.sl.r_12, phase0Run.sl.r_13, phase0Run.sl.r_14, phase0Run.sl.r_15, phase0Run.sl.r_16, phase0Run.sl.v74, View.readAt_eq_ld, Memref.IsWhole.read_unread, ld_whole_S8x8, ld_whole_S32x1, ld_whole_S4x32, ld_whole_S1x1,
    ld_chunkRow0, ld_chunkRow1, ld_chunkRow2, ld_chunkRow3]
  rfl

/-- What the first phase leaves in the noise rows. -/
theorem phase0_e  (c : Dev nD) (i : grid0.Coords) (arg2 : Memref sig .tc .vmem S4x1x2000x8 .f32) (harg2 : arg2.IsWhole) (arg3 : Memref sig .tc .vmem S4x1x2000x8 .f32) (harg3 : arg3.IsWhole) (arg4 : Memref sig .tc .vmem S8x8 .f32) (harg4 : arg4.IsWhole) (arg5 : Memref sig .tc .vmem S32x1 .f32) (harg5 : arg5.IsWhole) (arg6 : Memref sig .tc .vmem S4x32 .f32) (harg6 : arg6.IsWhole) (arg7 : Memref sig .tc .vmem S1x1 .f32) (harg7 : arg7.IsWhole) (arg8 : Memref sig .tc .vmem S8x8 .f32) (harg8 : arg8.IsWhole) (arg9 : Memref sig .tc .vmem S32x1 .f32) (harg9 : arg9.IsWhole) (arg10 : Memref sig .tc .vmem S4x32 .f32) (harg10 : arg10.IsWhole) (arg11 : Memref sig .tc .vmem S1x1 .f32) (harg11 : arg11.IsWhole) (arg12 : Memref sig .tc .vmem S4x20 .f32) (harg12 : arg12.IsWhole) (arg13 : Memref sig .tc .vmem S1x2000x4 .f32) (harg13 : arg13.IsWhole) (arg14 : Memref sig .tc .vmem S125x4x2000 .f32) (harg14 : arg14.IsWhole) (arg15 : Memref sig .tc .vmem S125x4x2000 .f32) (harg15 : arg15.IsWhole) (arg16 : Memref sig .tc .smem S1x16 .f32) (harg16 : arg16.IsWhole) (hc0 : inPhase0 i) (hc1 : ¬inPhase1 i)
    (x0 : Vec F S4x1x2000x8 .f32) (x1 : Vec F S4x1x2000x8 .f32) (x2 : Vec F S8x8 .f32) (x3 : Vec F S32x1 .f32) (x4 : Vec F S4x32 .f32) (x5 : Vec F S1x1 .f32) (x6 : Vec F S8x8 .f32) (x7 : Vec F S32x1 .f32) (x8 : Vec F S4x32 .f32) (x9 : Vec F S1x1 .f32) (x10 : Vec F S4x20 .f32) (xs2 : Vec F S1x16 .f32) (xs1 : Vec F S125x4x2000 .f32) :
    arg15.view.read (Elt F) (arg15.view.writes (Elt F) (harg15.unread xs1) (phase0Run c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs2).2.2.1)
      = VecWindow.put xs1 (k0_off1 i) S1x4x2000.size (k0_pay10 (eRowOf x1 x6 x7 x8 x9)) := by
  unfold phase0Run
  dsimp only
  rw [View.read_writes_cons_put _ _ _ _ _ rfl, View.writes_nil, Memref.IsWhole.read_unread]
  simp only [phase0Run.sl.r, phase0Run.sl.r_1, phase0Run.sl.r_2, phase0Run.sl.r_3, phase0Run.sl.r_6, phase0Run.sl.f, phase0Run.sl.f_1, phase0Run.sl.f_2, phase0Run.sl.f_3, phase0Run.sl.f_4, phase0Run.sl.f_5, phase0Run.sl.f_6, phase0Run.sl.f_7, phase0Run.sl.f_8, phase0Run.sl.r_4, phase0Run.sl.r_5, phase0Run.sl.r_7, phase0Run.sl.r_8, phase0Run.sl.r_9, phase0Run.sl.r_10, phase0Run.sl.r_11, phase0Run.sl.r_12, phase0Run.sl.r_13, phase0Run.sl.r_14, phase0Run.sl.r_15, phase0Run.sl.r_16, phase0Run.sl.v74, View.readAt_eq_ld, Memref.IsWhole.read_unread, ld_whole_S8x8, ld_whole_S32x1, ld_whole_S4x32, ld_whole_S1x1,
    ld_chunkRow0, ld_chunkRow1, ld_chunkRow2, ld_chunkRow3]
  rfl

/-- What the first phase leaves in the words. -/
theorem phase0_w  (c : Dev nD) (i : grid0.Coords) (arg2 : Memref sig .tc .vmem S4x1x2000x8 .f32) (harg2 : arg2.IsWhole) (arg3 : Memref sig .tc .vmem S4x1x2000x8 .f32) (harg3 : arg3.IsWhole) (arg4 : Memref sig .tc .vmem S8x8 .f32) (harg4 : arg4.IsWhole) (arg5 : Memref sig .tc .vmem S32x1 .f32) (harg5 : arg5.IsWhole) (arg6 : Memref sig .tc .vmem S4x32 .f32) (harg6 : arg6.IsWhole) (arg7 : Memref sig .tc .vmem S1x1 .f32) (harg7 : arg7.IsWhole) (arg8 : Memref sig .tc .vmem S8x8 .f32) (harg8 : arg8.IsWhole) (arg9 : Memref sig .tc .vmem S32x1 .f32) (harg9 : arg9.IsWhole) (arg10 : Memref sig .tc .vmem S4x32 .f32) (harg10 : arg10.IsWhole) (arg11 : Memref sig .tc .vmem S1x1 .f32) (harg11 : arg11.IsWhole) (arg12 : Memref sig .tc .vmem S4x20 .f32) (harg12 : arg12.IsWhole) (arg13 : Memref sig .tc .vmem S1x2000x4 .f32) (harg13 : arg13.IsWhole) (arg14 : Memref sig .tc .vmem S125x4x2000 .f32) (harg14 : arg14.IsWhole) (arg15 : Memref sig .tc .vmem S125x4x2000 .f32) (harg15 : arg15.IsWhole) (arg16 : Memref sig .tc .smem S1x16 .f32) (harg16 : arg16.IsWhole) (hc0 : inPhase0 i) (hc1 : ¬inPhase1 i)
    (x0 : Vec F S4x1x2000x8 .f32) (x1 : Vec F S4x1x2000x8 .f32) (x2 : Vec F S8x8 .f32) (x3 : Vec F S32x1 .f32) (x4 : Vec F S4x32 .f32) (x5 : Vec F S1x1 .f32) (x6 : Vec F S8x8 .f32) (x7 : Vec F S32x1 .f32) (x8 : Vec F S4x32 .f32) (x9 : Vec F S1x1 .f32) (x10 : Vec F S4x20 .f32) (xs2 : Vec F S1x16 .f32) :
    arg16.view.read (Elt F) (arg16.view.writes (Elt F) (harg16.unread xs2) (phase0Run c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs2).2.2.2.1)
      = wordsNew i (xRowOf x0 x2 x3 x4 x5) (eRowOf x1 x6 x7 x8 x9) xs2 := by
  unfold phase0Run
  dsimp only
  rw [View.read_writes_cons_put _ _ _ _ _ rfl, View.read_writes_cons_put _ _ _ _ _ rfl, View.read_writes_cons_put _ _ _ _ _ rfl, View.read_writes_cons_put _ _ _ _ _ rfl,
    View.read_writes_cons_put _ _ _ _ _ rfl, View.read_writes_cons_put _ _ _ _ _ rfl, View.read_writes_cons_put _ _ _ _ _ rfl, View.read_writes_cons_put _ _ _ _ _ rfl,
    View.read_writes_cons_put _ _ _ _ _ rfl, View.read_writes_cons_put _ _ _ _ _ rfl, View.writes_nil, Memref.IsWhole.read_unread]
  have hx : phase0Run.sl.r_1 c arg2 harg2 arg4 harg4 arg5 harg5 arg6 harg6 arg7 harg7 x0 x2 x3 x4 x5 = xRowOf x0 x2 x3 x4 x5 := by
    simp only [phase0Run.sl.r, phase0Run.sl.r_1, View.readAt_eq_ld, Memref.IsWhole.read_unread, ld_whole_S8x8, ld_whole_S32x1, ld_whole_S4x32, ld_whole_S1x1, ld_chunkRow0, ld_chunkRow1, ld_chunkRow2, ld_chunkRow3]
    rfl
  have he : phase0Run.sl.r_6 c arg3 harg3 arg8 harg8 arg9 harg9 arg10 harg10 arg11 harg11 x1 x6 x7 x8 x9 = eRowOf x1 x6 x7 x8 x9 := by
    simp only [phase0Run.sl.r_2, phase0Run.sl.r_3, phase0Run.sl.r_6, View.readAt_eq_ld, Memref.IsWhole.read_unread, ld_whole_S8x8, ld_whole_S32x1, ld_whole_S4x32, ld_whole_S1x1, ld_chunkRow0, ld_chunkRow1, ld_chunkRow2, ld_chunkRow3]
    rfl
  simp only [phase0Run.sl.f, phase0Run.sl.f_1, phase0Run.sl.f_2, phase0Run.sl.f_3, phase0Run.sl.f_4, phase0Run.sl.f_5, phase0Run.sl.f_6, phase0Run.sl.f_7, phase0Run.sl.f_8, phase0Run.sl.r_4, phase0Run.sl.r_5, phase0Run.sl.r_7, phase0Run.sl.r_8, phase0Run.sl.r_9, phase0Run.sl.r_10, phase0Run.sl.r_11, phase0Run.sl.r_12, phase0Run.sl.r_13, phase0Run.sl.r_14, phase0Run.sl.r_15, phase0Run.sl.r_16, phase0Run.sl.v74, hx, he, View.readAt_eq_ld, Memref.IsWhole.read_unread]
  rw [ld_word _ 0 (by decide), ld_word _ 1 (by decide), ld_word _ 2 (by decide), ld_word _ 3 (by decide), ld_word _ 4 (by decide), ld_word _ 5 (by decide), ld_word _ 6 (by decide), ld_word _ 7 (by decide), ld_word _ 8 (by decide), ld_word _ 9 (by decide)]
  rw [put_word _ 0, put_word _ 1, put_word _ 2, put_word _ 3, put_word _ 4, put_word _ 5, put_word _ 6, put_word _ 7, put_word _ 8, put_word _ 9]
  funext q
  unfold wordsNew
  obtain ⟨z, j, rfl⟩ : ∃ (z : Fin 1) (j : Fin 16), q = ValueIdx.ix2 z j := ⟨q 0, q 1, ValueIdx.eq_ix2 q⟩
  obtain rfl : z = (0 : Fin 1) := Subsingleton.elim (α := Fin 1) _ _

  fin_cases j <;> rfl

end Cert.KernelIdeal.Hand

end
-- ==== Proof.KI.Piece1.lean ====
/-
  What the second phase writes, as a function of values alone.
-/
module

public import proofs.«01_k».proof.Proof.KI.Steps
public import Idealize.ShloMosaic.Lib.VecWindow
public import Idealize.ShloMosaic.Lib.ValueIdx
public import Idealize.ShloMosaic.Lib.Pipeline.ValueKit

@[expose] public section

-- rectangles of the two large scratch buffers: membership looks once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

set_option maxHeartbeats 1600000 in
/-- The one piece the second phase writes into its output block. -/
theorem phase1_piece  (c : Dev nD) (i : grid0.Coords) (arg2 : Memref sig .tc .vmem S4x1x2000x8 .f32) (harg2 : arg2.IsWhole) (arg3 : Memref sig .tc .vmem S4x1x2000x8 .f32) (harg3 : arg3.IsWhole) (arg4 : Memref sig .tc .vmem S8x8 .f32) (harg4 : arg4.IsWhole) (arg5 : Memref sig .tc .vmem S32x1 .f32) (harg5 : arg5.IsWhole) (arg6 : Memref sig .tc .vmem S4x32 .f32) (harg6 : arg6.IsWhole) (arg7 : Memref sig .tc .vmem S1x1 .f32) (harg7 : arg7.IsWhole) (arg8 : Memref sig .tc .vmem S8x8 .f32) (harg8 : arg8.IsWhole) (arg9 : Memref sig .tc .vmem S32x1 .f32) (harg9 : arg9.IsWhole) (arg10 : Memref sig .tc .vmem S4x32 .f32) (harg10 : arg10.IsWhole) (arg11 : Memref sig .tc .vmem S1x1 .f32) (harg11 : arg11.IsWhole) (arg12 : Memref sig .tc .vmem S4x20 .f32) (harg12 : arg12.IsWhole) (arg13 : Memref sig .tc .vmem S1x2000x4 .f32) (harg13 : arg13.IsWhole) (arg14 : Memref sig .tc .vmem S125x4x2000 .f32) (harg14 : arg14.IsWhole) (arg15 : Memref sig .tc .vmem S125x4x2000 .f32) (harg15 : arg15.IsWhole) (arg16 : Memref sig .tc .smem S1x16 .f32) (harg16 : arg16.IsWhole) (hc0 : ¬inPhase0 i) (hc1 : inPhase1 i)
    (x0 : Vec F S4x1x2000x8 .f32) (x1 : Vec F S4x1x2000x8 .f32) (x2 : Vec F S8x8 .f32) (x3 : Vec F S32x1 .f32) (x4 : Vec F S4x32 .f32) (x5 : Vec F S1x1 .f32) (x6 : Vec F S8x8 .f32) (x7 : Vec F S32x1 .f32) (x8 : Vec F S4x32 .f32) (x9 : Vec F S1x1 .f32) (x10 : Vec F S4x20 .f32) (xs0 xs1 : Vec F S125x4x2000 .f32) (xs2 : Vec F S1x16 .f32) :
    (phase1Run c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 xs2).1
      = [⟨Rect.unit (s := S1x2000x4) ![0, 0, 0] S1x2000x4.size inb_S1x2000x4_S1x2000x4_0_0_0,
          curveOf xs2 (View.ld (Val := Elt F) (e' := .f32) xs0 (Rect.unit (s := S125x4x2000) (k0_off2 i) S1x4x2000.size (k0_off2_inb i hc1)))
            (View.ld (Val := Elt F) (e' := .f32) xs1 (Rect.unit (s := S125x4x2000) (k0_off2 i) S1x4x2000.size (k0_off2_inb i hc1))) x10⟩] := by
  unfold phase1Run
  dsimp only
  simp only [phase1Run.sl.cst_18, phase1Run.sl.cst_119, phase1Run.sl.cst_120, phase1Run.sl.r, phase1Run.sl.r_1, phase1Run.sl.r_2, phase1Run.sl.r_3, phase1Run.sl.r_4, phase1Run.sl.r_5, phase1Run.sl.r_6, phase1Run.sl.r_7, phase1Run.sl.r_8, phase1Run.sl.r_9, phase1Run.sl.r_10, phase1Run.sl.r_11, phase1Run.sl.r_12, phase1Run.sl.r_13, phase1Run.sl.r_14, phase1Run.sl.r_15, phase1Run.sl.r_16, phase1Run.sl.r_17, phase1Run.sl.r_18, phase1Run.sl.r_19, phase1Run.sl.r_20, phase1Run.sl.r_21, phase1Run.sl.r_22, phase1Run.sl.r_23, phase1Run.sl.r_24, phase1Run.sl.r_25, phase1Run.sl.r_26, phase1Run.sl.r_27, phase1Run.sl.r_28, phase1Run.sl.r_29, phase1Run.sl.r_30, phase1Run.sl.r_31, phase1Run.sl.r_32, phase1Run.sl.r_33, phase1Run.sl.r_34, phase1Run.sl.r_35, phase1Run.sl.r_36, phase1Run.sl.r_37, phase1Run.sl.r_38, phase1Run.sl.r_39, phase1Run.sl.r_40, phase1Run.sl.r_41, phase1Run.sl.r_42, phase1Run.sl.r_43, phase1Run.sl.r_44, View.readAt_eq_ld, Memref.IsWhole.read_unread,
    ld_heightCol _ 0 (by decide), ld_heightCol _ 1 (by decide), ld_heightCol _ 2 (by decide), ld_heightCol _ 3 (by decide), ld_heightCol _ 4 (by decide), ld_heightCol _ 5 (by decide), ld_heightCol _ 6 (by decide), ld_heightCol _ 7 (by decide), ld_heightCol _ 8 (by decide), ld_heightCol _ 9 (by decide), ld_heightCol _ 10 (by decide), ld_heightCol _ 11 (by decide), ld_heightCol _ 12 (by decide), ld_heightCol _ 13 (by decide), ld_heightCol _ 14 (by decide), ld_heightCol _ 15 (by decide), ld_heightCol _ 16 (by decide), ld_heightCol _ 17 (by decide), ld_heightCol _ 18 (by decide), ld_heightCol _ 19 (by decide)]
  rw [ld_word _ 0 (by decide), ld_word _ 1 (by decide), ld_word _ 2 (by decide), ld_word _ 3 (by decide), ld_word _ 4 (by decide), ld_word _ 5 (by decide), ld_word _ 6 (by decide), ld_word _ 7 (by decide), ld_word _ 8 (by decide), ld_word _ 9 (by decide)]
  unfold curveOf
  dsimp only

end Cert.KernelIdeal.Hand

end
-- ==== Proof.KI.Body.lean ====
/-
  The kernel's run: the proof data of its pipeline, the body at every point, the launch and the frame.
-/
module

public import proofs.«01_k».proof.Proof.KI.Invar
public import proofs.«01_k».proof.Proof.KI.Piece0
public import proofs.«01_k».proof.Proof.KI.Piece1
public import Idealize.ShloMosaic.Lib.Claim
public import Idealize.ShloMosaic.Lib.ValueLayout
public import Idealize.ShloMosaic.Lib.VecWindow
public import Idealize.ShloMosaic.Lib.ValueIdx
public import Idealize.ShloMosaic.Lib.Pipeline.ValueKit

@[expose] public section

-- rectangles of the two large scratch buffers: membership looks once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

/-! ## Where the output window is idle -/

/-- In the first phase the output window is idle, -/
theorem out_idle : ∀ t : Fin cfg0.N, t.val < 125 → cfg0.idle 11 (grid0.coords t) = true := by decide +kernel
/-- and its block is not written back. -/
theorem out_noFlush : ∀ t : Fin cfg0.N, t.val < 125 → (cfg0.win 11).flush t = false := by decide +kernel
/-- In the second phase it is live. -/
theorem out_live : ∀ t : Fin cfg0.N, 125 ≤ t.val → cfg0.idle 11 (grid0.coords t) = false := by decide +kernel

/-! ## The buffers -/

abbrev stg0 (t : Fin cfg0.N) : Memref sig .tc .vmem S4x1x2000x8 .f32 := win0_0.stage (cfg0.slots t 0)
abbrev stg1 (t : Fin cfg0.N) : Memref sig .tc .vmem S4x1x2000x8 .f32 := win0_1.stage (cfg0.slots t 1)
abbrev stg2 (t : Fin cfg0.N) : Memref sig .tc .vmem S8x8 .f32 := win0_2.stage (cfg0.slots t 2)
abbrev stg3 (t : Fin cfg0.N) : Memref sig .tc .vmem S32x1 .f32 := win0_3.stage (cfg0.slots t 3)
abbrev stg4 (t : Fin cfg0.N) : Memref sig .tc .vmem S4x32 .f32 := win0_4.stage (cfg0.slots t 4)
abbrev stg5 (t : Fin cfg0.N) : Memref sig .tc .vmem S1x1 .f32 := win0_5.stage (cfg0.slots t 5)
abbrev stg6 (t : Fin cfg0.N) : Memref sig .tc .vmem S8x8 .f32 := win0_6.stage (cfg0.slots t 6)
abbrev stg7 (t : Fin cfg0.N) : Memref sig .tc .vmem S32x1 .f32 := win0_7.stage (cfg0.slots t 7)
abbrev stg8 (t : Fin cfg0.N) : Memref sig .tc .vmem S4x32 .f32 := win0_8.stage (cfg0.slots t 8)
abbrev stg9 (t : Fin cfg0.N) : Memref sig .tc .vmem S1x1 .f32 := win0_9.stage (cfg0.slots t 9)
abbrev stg10 (t : Fin cfg0.N) : Memref sig .tc .vmem S4x20 .f32 := win0_10.stage (cfg0.slots t 10)
abbrev stg11 (t : Fin cfg0.N) : Memref sig .tc .vmem S1x2000x4 .f32 := win0_11.stage (cfg0.slots t 11)

/-- The scratch operands. -/
abbrev scrX : Memref sig .tc .vmem S125x4x2000 .f32 := Memref.whole cc0_scratch0
abbrev scrE : Memref sig .tc .vmem S125x4x2000 .f32 := Memref.whole cc0_scratch1
abbrev scrW : Memref sig .tc .smem S1x16 .f32 := Memref.whole cc0_scratch2

/-- What the launch hands over: the scratch buffers at some contents and the generator's register. -/
theorem scratch_eq (c : Dev nD) :
    (Pipeline.ΦA spec0 c : sProp 𝕄)
      = iprop(iprop((∃ d, owns (c : Thread nD τ) scrX fullShare d) ∗ (∃ d, owns (c : Thread nD τ) scrE fullShare d) ∗ (∃ d, owns (c : Thread nD τ) scrW fullShare d)) ∗ (∃ r, prngReg c r)) := by
  unfold Pipeline.ΦA; rw [scopedRest0_eq]; simp only [scrX, scrE, scrW, owns_whole]; try rfl

/-! ## The proof data -/

/-- The invariant: before point `n` the scratch buffers hold what `Holds` says. -/
def inv (c : Dev nD) (n : ℕ) : sProp 𝕄 :=
  iprop(∃ X E A, ⌜Holds m c n X E A⌝ ∗ owns (c : Thread nD τ) scrX fullShare X ∗ owns (c : Thread nD τ) scrE fullShare E
    ∗ owns (c : Thread nD τ) scrW fullShare A ∗ (∃ r, prngReg c r))

/-- The pipeline's proof data: every input's buffer holds its block, the output's the block of its chunk. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => blockAt m c t
  Φ t := inv m c t.val
  q _ := fullShare
  owed _ := 0

theorem A_eq (c : Dev nD) (w : Fin cfg0.W) : (dats m 0 c).A w = V m c (Pipeline.arrRef spec0 w) := by dsimp only [dats]

theorem inv_now (c : Dev nD) (t : Fin cfg0.N) : (dats m 0 c).Φ t.castSucc = inv m c t.val := by
  dsimp only [dats]; exact congrArg (inv m c) (by simp)

theorem inv_next (c : Dev nD) (t : Fin cfg0.N) : (dats m 0 c).Φ t.succ = inv m c (t.val + 1) := by
  dsimp only [dats]; exact congrArg (inv m c) (by simp)

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = blockAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

theorem leaves_0 (c : Dev nD) (t : Fin cfg0.N) : (dats m 0 c).leavesExact 0 t = owns (c : Thread nD τ) (stg0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (stg1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (stg2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (stg3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (stg4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (stg5 t) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (stg6 t) fullShare (iblk m c 6 t) := by
  unfold Dat.leavesExact; rw [show cfg0.idle 6 (cfg0.grid.coords t) = false from rfl, after_6]
theorem leaves_7 (c : Dev nD) (t : Fin cfg0.N) : (dats m 0 c).leavesExact 7 t = owns (c : Thread nD τ) (stg7 t) fullShare (iblk m c 7 t) := by
  unfold Dat.leavesExact; rw [show cfg0.idle 7 (cfg0.grid.coords t) = false from rfl, after_7]
theorem leaves_8 (c : Dev nD) (t : Fin cfg0.N) : (dats m 0 c).leavesExact 8 t = owns (c : Thread nD τ) (stg8 t) fullShare (iblk m c 8 t) := by
  unfold Dat.leavesExact; rw [show cfg0.idle 8 (cfg0.grid.coords t) = false from rfl, after_8]
theorem leaves_9 (c : Dev nD) (t : Fin cfg0.N) : (dats m 0 c).leavesExact 9 t = owns (c : Thread nD τ) (stg9 t) fullShare (iblk m c 9 t) := by
  unfold Dat.leavesExact; rw [show cfg0.idle 9 (cfg0.grid.coords t) = false from rfl, after_9]
theorem leaves_10 (c : Dev nD) (t : Fin cfg0.N) : (dats m 0 c).leavesExact 10 t = owns (c : Thread nD τ) (stg10 t) fullShare (iblk m c 10 t) := by
  unfold Dat.leavesExact; rw [show cfg0.idle 10 (cfg0.grid.coords t) = false from rfl, after_10]
theorem leaves_11 (c : Dev nD) (t : Fin cfg0.N) (h : 125 ≤ t.val) :
    (dats m 0 c).leavesExact 11 t = owns (c : Thread nD τ) (stg11 t) fullShare (blockAt m c t) := by
  unfold Dat.leavesExact; rw [out_live t h, after_11]

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body in the first phase: it stores the chunk's rows and renews the words. -/
theorem body_phase0 (c : Dev nD) (t : Fin cfg0.N) (ht : t.val < 125) :
    bodyPre m c t ⊢ wp frame (wpE (defs₀ (F := F)) Variants.none c none) Set.univ (bodyAt0 t) (fun _ => bodyPost m c t) := by
  have h0 : inPhase0 (grid0.coords t) := (inPhase0_iff t).mpr ht
  have h1 : ¬inPhase1 (grid0.coords t) := fun h => absurd ((inPhase1_iff t).mp h) (by omega)
  unfold bodyPre bodyPost bodyAt0
  simp only [before_0, before_1, before_2, before_3, before_4, before_5, before_6, before_7, before_8, before_9, before_10]
  rw [show (dats m 0 c).owesAt () t.succ = (dats m 0 c).owesAt () t.castSucc from rfl, inv_now, inv_next,
    leaves_0, leaves_1, leaves_2, leaves_3, leaves_4, leaves_5, leaves_6, leaves_7, leaves_8, leaves_9, leaves_10,
    Dat.leavesExact_idle (dats m 0 c) 11 t (out_idle t ht) (out_noFlush t ht)]
  unfold inv
  iintro ⟨⟨%X, %E, %A, %hH, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((phase0Run c (grid0.coords t) _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) A).2.2.2.2 _ X E Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, H7, H8, H9, H10, H11, HS0, HS1, HS2⟩
  isplitl [HS0 HS1 HS2 Hg]
  · iexists _; iexists _; iexists _
    isplitr
    · ipureintro; exact Holds.store m ⟨t.val, ht⟩ hH
    isplitl [HS0]
    · unfold owns; iexists _; isplitr
      swap; · iexact HS0
      ipureintro; exact phase0_x c (grid0.coords t) _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) A X
    isplitl [HS1]
    · unfold owns; iexists _; isplitr
      swap; · iexact HS1
      ipureintro; exact phase0_e c (grid0.coords t) _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) A E
    isplitl [HS2]
    · unfold owns; iexists _; isplitr
      swap; · iexact HS2
      ipureintro; exact phase0_w c (grid0.coords t) _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) A
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

set_option maxHeartbeats 4000000 in
/-- The body in the second phase: it writes the chunk's output block. -/
theorem body_phase1 (c : Dev nD) (t : Fin cfg0.N) (ht : 125 ≤ t.val) :
    bodyPre m c t ⊢ wp frame (wpE (defs₀ (F := F)) Variants.none c none) Set.univ (bodyAt0 t) (fun _ => bodyPost m c t) := by
  have h0 : ¬inPhase0 (grid0.coords t) := fun h => absurd ((inPhase0_iff t).mp h) (by omega)
  have h1 : inPhase1 (grid0.coords t) := (inPhase1_iff t).mpr ht
  unfold bodyPre bodyPost bodyAt0
  simp only [before_0, before_1, before_2, before_3, before_4, before_5, before_6, before_7, before_8, before_9, before_10]
  rw [show (dats m 0 c).owesAt () t.succ = (dats m 0 c).owesAt () t.castSucc from rfl, inv_now, inv_next,
    leaves_0, leaves_1, leaves_2, leaves_3, leaves_4, leaves_5, leaves_6, leaves_7, leaves_8, leaves_9, leaves_10, leaves_11 m c t ht]
  unfold inv
  iintro ⟨⟨%X, %E, %A, %hH, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((phase1Run c (grid0.coords t) _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) X E A).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  iintro ⟨H0, H1, H2, H3, H4, H5, H6, H7, H8, H9, H10, ⟨%e11, H11⟩, HS0, HS1, HS2⟩
  isplitl [HS0 HS1 HS2 Hg]
  · iexists _; iexists _; iexists _
    isplitr
    · ipureintro; exact Holds.keep m ht hH
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro
  rw [phase1_piece]
  exact (View.read_writes_full _ _ _ _ _).trans (hH.curve m t ht _)

/-- The body at every point. -/
theorem body_any (c : Dev nD) (t : Fin cfg0.N) :
    bodyPre m c t ⊢ wp frame (wpE (defs₀ (F := F)) Variants.none c none) Set.univ (bodyAt0 t) (fun _ => bodyPost m c t) := by
  rcases Nat.lt_or_ge t.val 125 with h | h
  · exact body_phase0 m c t h
  · exact body_phase1 m c t h

/-- The body table's row at a point is the body. -/
theorem table_row (t : Fin cfg0.N) : defs₀ (F := F) .tc cfg0.body (cfg0.bodyArgs t (cfg0.slots t)) = bodyAt0 t := by
  unfold defs₀; rw [Defs.onTc_tc]

/-- The library's body obligation. -/
theorem obligation (c : Dev nD) : BodyObligation (dats (F := F) m 0 c) (defs₀ (F := F)) Variants.none () Set.univ := fun t => by
  rw [bigSep_W0, bigSep_W0, table_row]
  exact triple_restated (body_any m c t) rfl .rfl fun _ => .rfl

/-- The launch's scratch gives the invariant before the first point. -/
theorem inv_first (c : Dev nD) : Pipeline.ΦA spec0 c ⊢ (dats m 0 c).Φ 0 := by
  rw [show (dats m 0 c).Φ 0 = inv m c 0 from rfl, scratch_eq]
  unfold inv
  iintro ⟨⟨⟨%X, HS0⟩, ⟨%E, HS1⟩, ⟨%A, HS2⟩⟩, Hg⟩
  iexists X; iexists E; iexists A
  isplitr
  · ipureintro; exact Holds.start m c X E A
  isplitl [HS0]; · iexact HS0
  isplitl [HS1]; · iexact HS1
  isplitl [HS2]; · iexact HS2
  iexact Hg

/-- After the last point the scratch is handed back. -/
theorem inv_last (c : Dev nD) : (dats m 0 c).Φ (Fin.last cfg0.N) ⊢ Pipeline.ΦA spec0 c := by
  rw [show (dats m 0 c).Φ (Fin.last cfg0.N) = inv m c (Fin.last cfg0.N).val from rfl, scratch_eq]
  unfold inv
  iintro ⟨%X, %E, %A, -, HS0, HS1, HS2, Hg⟩
  isplitl [HS0 HS1 HS2]
  · isplitl [HS0]; · iexists _; iexact HS0
    isplitl [HS1]; · iexists _; iexact HS1
    iexists _; iexact HS2
  iexact Hg

/-! ## The launch and the frame -/

-- the launch's implicit arguments are found by unifying its conclusion with this one
set_option backward.isDefEq.respectTransparency.types false in
set_option maxHeartbeats 800000 in
/-- Every execution ends with the pipeline's arrays as the proof data say and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_first m) (hout := inv_last m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.V.Consts.lean ====
/-
  The float constants the two programs and the precondition spell, as extended reals.
-/
module

public import Idealize.ShloMosaic.PureOps.Ideal

@[expose] public section

noncomputable section

namespace Cert.Curve

open Idealize.ShloMosaic

/-- `0.0`. -/
theorem word_zero : Ideal.ofBits .f32 0x00000000#32 = 0 := by
  simp [Ideal.ofBits, Ideal.ieee]

/-- `1.0`. -/
theorem word_one : Ideal.ofBits .f32 0x3F800000#32 = ((1 : ℝ) : EReal) := by
  simp [Ideal.ofBits, Ideal.ieee, -EReal.coe_mul]; norm_num

/-- `19.0`, the number of segments. -/
theorem word_nineteen : Ideal.ofBits .f32 0x41980000#32 = ((19 : ℝ) : EReal) := by
  simp [Ideal.ofBits, Ideal.ieee, -EReal.coe_mul]; norm_num

/-- `1000000.0`, the number of noise values. -/
theorem word_million : Ideal.ofBits .f32 0x49742400#32 = ((1000000 : ℝ) : EReal) := by
  simp [Ideal.ofBits, Ideal.ieee, -EReal.coe_mul]; norm_num

/-- The slopes' guard, the float nearest to `1e-7`. -/
theorem word_guard : Ideal.ofBits .f32 0x33D6BF95#32 = ((14073749 / 2 ^ 47 : ℝ) : EReal) := by
  simp [Ideal.ofBits, Ideal.ieee, -EReal.coe_mul]; norm_num

/-- The noise's weight, the float nearest to `0.1`. -/
theorem word_weight : Ideal.ofBits .f32 0x3DCCCCCD#32 = ((13421773 / 2 ^ 27 : ℝ) : EReal) := by
  simp [Ideal.ofBits, Ideal.ieee, -EReal.coe_mul]; norm_num

/-- The upper infinity. -/
theorem word_top : Ideal.ofBits .f32 0x7F800000#32 = ⊤ := by
  simp [Ideal.ofBits, Ideal.ieee]

/-- The lower infinity. -/
theorem word_bot : Ideal.ofBits .f32 0xFF800000#32 = ⊥ := by
  simp [Ideal.ofBits, Ideal.ieee]

end Cert.Curve

end
-- ==== Proof.V.Host.lean ====
/-
  What the host prepares before the launch, and what each window of the launch reads of it.
-/
module

public import proofs.«01_k».proof.Proof.KI.Invar
public import proofs.«01_k».proof.Proof.V.Consts
public import Idealize.ShloMosaic.PureOps.Ideal.Laws
public import Idealize.ShloMosaic.Lib.Claim
public import Idealize.ShloMosaic.Lib.ValueLayout
public import Idealize.ShloMosaic.Lib.Pipeline.Value

@[expose] public section

set_option maxRecDepth 16384

noncomputable section

namespace Cert.KernelIdeal.Hand

open Cert.KernelIdeal Cert.KernelIdeal.Gen Cert.Curve
open Idealize.ShloMosaic hiding eq_ix1 eq_ix2 eq_ix3 ix1 ix2 ix3 ix4 addf_apply mulf_apply subf_apply divf_apply maximumf_apply minimumf_apply
open ValueIdx
open Idealize.ShloMosaic.TcCoe

/-! ## The prepared arrays as functions of the arguments -/

/-- A latent array cut into chunks. -/
abbrev chunked (z : Vec Ideal S4x250000x8 .f32) : Vec Ideal S4x125x2000x8 .f32 := shapeCast S4x125x2000x8 z shapeCasts_S4x250000x8_S4x125x2000x8

/-- The hidden bias once per batch row. -/
abbrev biasCol (b : Vec Ideal S8 .f32) : Vec Ideal S32x1 .f32 :=
  shapeCast S32x1 (shapeCast S32 (broadcastInDim S4x8 ![0, 1] bcast_S1x8_S4x8_0_1 (shapeCast S1x8 b shapeCasts_S8_S1x8)) shapeCasts_S4x8_S32) shapeCasts_S32_S32x1

/-- The unit matrix of the four batch rows. -/
abbrev unitRows : Vec Ideal S4x4 .f32 :=
  uitofp (F := Ideal) .f32 (cmpi .eq (addi (iotaInDim S4x4 32 0) (broadcastInDim S4x4 ![] bcast_S_S4x4 (constantI S_ 32 0#32))) (iotaInDim S4x4 32 1))

/-- The output weights on the diagonal of the batch rows. -/
abbrev diagWeights (w : Vec Ideal S8x1 .f32) : Vec Ideal S4x32 .f32 :=
  shapeCast S4x32 (mulf (F := Ideal) (φ := .f32)
    (broadcastInDim S4x1x4x8 ![0, 1, 2, 3] bcast_S4x1x4x1_S4x1x4x8_0_1_2_3 (broadcastInDim S4x1x4x1 ![0, 2] bcast_S4x4_S4x1x4x1_0_2 unitRows))
    (broadcastInDim S4x1x4x8 ![0, 1, 2, 3] bcast_S1x1x1x8_S4x1x4x8_0_1_2_3
      (broadcastInDim S1x1x1x8 ![1, 3] bcast_S1x8_S1x1x1x8_1_3 (broadcastInDim S1x8 ![1] bcast_S8_S1x8_1 (shapeCast S8 w shapeCasts_S8x1_S8)))))
    shapeCasts_S4x1x4x8_S4x32

/-- The output bias as a one-element matrix. -/
abbrev oneWord (b : Vec Ideal S1 .f32) : Vec Ideal S1x1 .f32 := shapeCast S1x1 b shapeCasts_S1_S1x1

section Read

variable (m : (ℓ : Loc nD τ sig) → Buf (Elt Ideal) ℓ) (c : Dev nD)

/-- An argument as launched. -/
abbrev argAt (b : Ref sig .tc) : Buf (Elt Ideal) ((c : Thread nD τ).loc b) := m ((c : Thread nD τ).loc b)

theorem V_main_v17 : V m c main_v17 = chunked (argAt m c main_arg1) := by
  unfold_abbrev_sides
  simp only [List.flatten_cons, List.flatten_nil, List.cons_append, List.nil_append]
  after_results
  rfl

theorem V_main_v18 : V m c main_v18 = chunked (argAt m c main_arg2) := by
  unfold_abbrev_sides
  simp only [List.flatten_cons, List.flatten_nil, List.cons_append, List.nil_append]
  after_results
  rfl

theorem V_main_v22 : V m c main_v22 = biasCol (argAt m c main_arg8) := by
  unfold_abbrev_sides
  simp only [List.flatten_cons, List.flatten_nil, List.cons_append, List.nil_append]
  after_results
  rfl

theorem V_main_v26 : V m c main_v26 = biasCol (argAt m c main_arg12) := by
  unfold_abbrev_sides
  simp only [List.flatten_cons, List.flatten_nil, List.cons_append, List.nil_append]
  after_results
  rfl

theorem V_main_v35 : V m c main_v35 = diagWeights (argAt m c main_arg9) := by
  unfold_abbrev_sides
  simp only [List.flatten_cons, List.flatten_nil, List.cons_append, List.nil_append]
  after_results
  rfl

theorem V_main_v38 : V m c main_v38 = diagWeights (argAt m c main_arg13) := by
  unfold_abbrev_sides
  simp only [List.flatten_cons, List.flatten_nil, List.cons_append, List.nil_append]
  after_results
  rfl

theorem V_main_v39 : V m c main_v39 = oneWord (argAt m c main_arg10) := by
  unfold_abbrev_sides
  simp only [List.flatten_cons, List.flatten_nil, List.cons_append, List.nil_append]
  after_results
  rfl

theorem V_main_v40 : V m c main_v40 = oneWord (argAt m c main_arg14) := by
  unfold_abbrev_sides
  simp only [List.flatten_cons, List.flatten_nil, List.cons_append, List.nil_append]
  after_results
  rfl

/-- The heights of the knots before they are put in order. -/
abbrev rawHeights (z : Vec Ideal S4x8 .f32) (w1 : Vec Ideal S8x8 .f32) (b1 : Vec Ideal S8 .f32) (w2 : Vec Ideal S8x20 .f32) (b2 : Vec Ideal S20 .f32) :
    Vec Ideal S4x20 .f32 :=
  Host.tanh (F := Ideal) (φ := .f32) (addf (F := Ideal) (φ := .f32) (Host.dotGeneral (F := Ideal) (φ₁ := .f32) (φ₂ := .f32) dot_S4x8_S8x20_S4x20_1_0_0_1_n_n none
      (Host.tanh (F := Ideal) (φ := .f32) (addf (F := Ideal) (φ := .f32) (Host.dotGeneral (F := Ideal) (φ₁ := .f32) (φ₂ := .f32) dot_S4x8_S8x8_S4x8_1_0_0_1_n_n none z w1)
        (broadcastInDim S4x8 ![0, 1] bcast_S1x8_S4x8_0_1 (broadcastInDim S1x8 ![1] bcast_S8_S1x8_1 b1)))) w2)
    (broadcastInDim S4x20 ![0, 1] bcast_S1x20_S4x20_0_1 (broadcastInDim S1x20 ![1] bcast_S20_S1x20_1 b2)))

/-- The heights of the knots: rising or falling per batch row. -/
abbrev knotHeights (z : Vec Ideal S4x8 .f32) (w1 : Vec Ideal S8x8 .f32) (b1 : Vec Ideal S8 .f32) (w2 : Vec Ideal S8x20 .f32) (b2 : Vec Ideal S20 .f32)
    (dirs : Vec Ideal S4 .i32) : Vec Ideal S4x20 .f32 :=
  select (broadcastInDim S4x20 ![0, 1] bcast_S4x1_S4x20_0_1 (broadcastInDim S4x1 ![0] bcast_S4_S4x1_0
      (id (cmpi .ne dirs (broadcastInDim S4 ![] bcast_S_S4 (constantI S_ 32 0#32))))))
    (Host.sort S4x20 1 (comparator_f32_d1 (F := Ideal)) (rawHeights z w1 b1 w2 b2))
    (Host.reverse [1] (Host.sort S4x20 1 (comparator_f32_d1 (F := Ideal)) (rawHeights z w1 b1 w2 b2)))

theorem V_main_v16 : V m c main_v16
    = knotHeights (argAt m c main_arg0) (argAt m c main_arg3) (argAt m c main_arg4) (argAt m c main_arg5) (argAt m c main_arg6) (argAt m c main_arg15) := by
  unfold_abbrev_sides
  simp only [List.flatten_cons, List.flatten_nil, List.cons_append, List.nil_append]
  after_results
  rfl

/-! ## What each window reads -/

/-- An element of a block that is the whole array sits at its own place. -/
theorem whole_place {n0 n1 : ℕ} (i j : (⟨2, ![n0, n1]⟩ : Shape).Idx) (h0 : (i 0).val = 0 * n0 + 1 * (j 0).val) (h1 : (i 1).val = 0 * n1 + 1 * (j 1).val) : i = j := by
  funext a
  apply Fin.ext
  match a with
  | ⟨0, _⟩ => exact h0.trans (by show _ = (j 0).val; omega)
  | ⟨1, _⟩ => exact h1.trans (by show _ = (j 1).val; omega)

variable (t : Fin cfg0.N)

theorem iblk_2 : iblk m c 2 t = V m c main_arg7 := funext fun j => congrArg (V m c main_arg7) (whole_place _ j rfl rfl)
theorem iblk_3 : iblk m c 3 t = V m c main_v22 := funext fun j => congrArg (V m c main_v22) (whole_place _ j rfl rfl)
theorem iblk_4 : iblk m c 4 t = V m c main_v35 := funext fun j => congrArg (V m c main_v35) (whole_place _ j rfl rfl)
theorem iblk_5 : iblk m c 5 t = V m c main_v39 := funext fun j => congrArg (V m c main_v39) (whole_place _ j rfl rfl)
theorem iblk_6 : iblk m c 6 t = V m c main_arg11 := funext fun j => congrArg (V m c main_arg11) (whole_place _ j rfl rfl)
theorem iblk_7 : iblk m c 7 t = V m c main_v26 := funext fun j => congrArg (V m c main_v26) (whole_place _ j rfl rfl)
theorem iblk_8 : iblk m c 8 t = V m c main_v38 := funext fun j => congrArg (V m c main_v38) (whole_place _ j rfl rfl)
theorem iblk_9 : iblk m c 9 t = V m c main_v40 := funext fun j => congrArg (V m c main_v40) (whole_place _ j rfl rfl)
theorem iblk_10 : iblk m c 10 t = V m c main_v16 := funext fun j => congrArg (V m c main_v16) (whole_place _ j rfl rfl)

/-- In the first phase the latent windows read chunk after chunk. -/
theorem chunk_index : ∀ t : Fin cfg0.N, t.val < 125 → win0_0.index t 1 = t.val ∧ win0_1.index t 1 = t.val := by decide +kernel

/-- An element of a chunk sits in the array at that chunk. -/
theorem chunk_place (i : Fin 125) (j : S4x125x2000x8.Idx) (b : Fin 4) (p : Fin 2000) (l : Fin 8) {n : ℕ} (hn : n = i.val)
    (h0 : (j 0).val = 0 * 4 + 1 * b.val) (h1 : (j 1).val = n * 1 + 1 * 0) (h2 : (j 2).val = 0 * 2000 + 1 * p.val) (h3 : (j 3).val = 0 * 8 + 1 * l.val) : j = ix4 b i p l := by
  subst hn
  funext a
  apply Fin.ext
  match a with
  | ⟨0, _⟩ => exact h0.trans (by show _ = b.val; omega)
  | ⟨1, _⟩ => exact h1.trans (by show _ = i.val; omega)
  | ⟨2, _⟩ => exact h2.trans (by show _ = p.val; omega)
  | ⟨3, _⟩ => exact h3.trans (by show _ = l.val; omega)

theorem iblk_0 (i : Fin 125) (b : Fin 4) (p : Fin 2000) (l : Fin 8) :
    (iblk m c 0 (chunkPt i) : Vec Ideal S4x1x2000x8 .f32) (ix4 b (0 : Fin 1) p l) = (V m c main_v17 : Vec Ideal S4x125x2000x8 .f32) (ix4 b i p l) :=
  congrArg (V m c main_v17) (chunk_place i _ b p l (chunk_index (chunkPt i) i.isLt).1 rfl rfl rfl rfl)

theorem iblk_1 (i : Fin 125) (b : Fin 4) (p : Fin 2000) (l : Fin 8) :
    (iblk m c 1 (chunkPt i) : Vec Ideal S4x1x2000x8 .f32) (ix4 b (0 : Fin 1) p l) = (V m c main_v18 : Vec Ideal S4x125x2000x8 .f32) (ix4 b i p l) :=
  congrArg (V m c main_v18) (chunk_place i _ b p l (chunk_index (chunkPt i) i.isLt).2 rfl rfl rfl rfl)

end Read

/-! ## The prepared arrays at a position -/

theorem chunked_apply (z : Vec Ideal S4x250000x8 .f32) (b : Fin 4) (i : Fin 125) (p : Fin 2000) (l : Fin 8) (k : Fin 250000) (hk : k.val = 2000 * i.val + p.val) :
    chunked z (ix4 b i p l) = z (ix3 b k l) :=
  shapeCast_apply z shapeCasts_S4x250000x8_S4x125x2000x8 (ix4 b i p l) (ix3 b k l) (by
    rw [Shape.rowMajor_val_three, Shape.rowMajor_val_four]
    show (b.val * 250000 + k.val) * 8 + l.val = ((b.val * 125 + i.val) * 2000 + p.val) * 8 + l.val
    omega)

theorem biasCol_apply (v : Vec Ideal S8 .f32) (b : Fin 4) (j : Fin 8) (k : Fin 32) (hk : k.val = j.val + 8 * b.val) :
    biasCol v (ix2 k (0 : Fin 1)) = v (ix1 j) := by
  refine (shapeCast_apply _ shapeCasts_S32_S32x1 (ix2 k (0 : Fin 1)) (ix1 k) (by
    rw [Shape.rowMajor_val_one, Shape.rowMajor_val_two]; show k.val = k.val * 1 + 0; omega)).trans ?_
  refine (shapeCast_apply _ shapeCasts_S4x8_S32 (ix1 k) (ix2 b j) (by
    rw [Shape.rowMajor_val_one, Shape.rowMajor_val_two]; show b.val * 8 + j.val = k.val; omega)).trans ?_
  refine (broadcastInDim_apply _ bcast_S1x8_S4x8_0_1 _ (ix2 b j) (ix2 (0 : Fin 1) j) (fun a => match a with | ⟨0, _⟩ => rfl | ⟨1, _⟩ => rfl)).trans ?_
  exact shapeCast_apply _ shapeCasts_S8_S1x8 (ix2 (0 : Fin 1) j) (ix1 j) (by
    rw [Shape.rowMajor_val_one, Shape.rowMajor_val_two]; show j.val = 0 * 8 + j.val; omega)

/-- A flag read as a number. -/
theorem flag_apply (x : IVec S4x4 1) (j : S4x4.Idx) : (uitofp (F := Ideal) .f32 x j : EReal) = (((x j).toNat : ℝ) : EReal) := rfl

theorem unitRows_apply (r b : Fin 4) : (unitRows (ix2 r b) : EReal) = if r = b then 1 else 0 := by
  have h : ∀ r b : Fin 4, (cmpi .eq (addi (iotaInDim S4x4 32 0) (broadcastInDim S4x4 ![] bcast_S_S4x4 (constantI S_ 32 0#32))) (iotaInDim S4x4 32 1) : IVec S4x4 1) (ix2 r b)
      = if r = b then 1#1 else 0#1 := by decide
  refine (flag_apply _ _).trans ?_
  rw [h r b]
  split_ifs <;> simp

theorem diagWeights_apply (w : Vec Ideal S8x1 .f32) (r b : Fin 4) (j : Fin 8) (k : Fin 32) (hk : k.val = j.val + 8 * b.val) :
    (diagWeights w (ix2 r k) : EReal) = (if r = b then 1 else 0) * (w (ix2 j (0 : Fin 1)) : EReal) := by
  refine (shapeCast_apply _ shapeCasts_S4x1x4x8_S4x32 (ix2 r k) (ix4 r (0 : Fin 1) b j) (by
    rw [Shape.rowMajor_val_four, Shape.rowMajor_val_two]
    show ((r.val * 1 + 0) * 4 + b.val) * 8 + j.val = r.val * 32 + k.val; omega)).trans ?_
  have e1 := (broadcastInDim_apply _ bcast_S4x1x4x1_S4x1x4x8_0_1_2_3 (broadcastInDim S4x1x4x1 ![0, 2] bcast_S4x4_S4x1x4x1_0_2 unitRows) (ix4 r (0 : Fin 1) b j)
      (ix4 r (0 : Fin 1) b (0 : Fin 1)) (fun a => match a with | ⟨0, _⟩ => rfl | ⟨1, _⟩ => rfl | ⟨2, _⟩ => rfl | ⟨3, _⟩ => rfl)).trans
    (broadcastInDim_apply _ bcast_S4x4_S4x1x4x1_0_2 unitRows (ix4 r (0 : Fin 1) b (0 : Fin 1)) (ix2 r b) (fun a => match a with | ⟨0, _⟩ => rfl | ⟨1, _⟩ => rfl))
  have e2 := (broadcastInDim_apply _ bcast_S1x1x1x8_S4x1x4x8_0_1_2_3 (broadcastInDim S1x1x1x8 ![1, 3] bcast_S1x8_S1x1x1x8_1_3 (broadcastInDim S1x8 ![1] bcast_S8_S1x8_1 (shapeCast S8 w shapeCasts_S8x1_S8))) (ix4 r (0 : Fin 1) b j)
      (ix4 (0 : Fin 1) (0 : Fin 1) (0 : Fin 1) j) (fun a => match a with | ⟨0, _⟩ => rfl | ⟨1, _⟩ => rfl | ⟨2, _⟩ => rfl | ⟨3, _⟩ => rfl)).trans
    ((broadcastInDim_apply _ bcast_S1x8_S1x1x1x8_1_3 _ (ix4 (0 : Fin 1) (0 : Fin 1) (0 : Fin 1) j) (ix2 (0 : Fin 1) j) (fun a => match a with | ⟨0, _⟩ => rfl | ⟨1, _⟩ => rfl)).trans
    ((broadcastInDim_apply _ bcast_S8_S1x8_1 _ (ix2 (0 : Fin 1) j) (ix1 j) (fun a => match a with | ⟨0, _⟩ => rfl)).trans
    (shapeCast_apply w shapeCasts_S8x1_S8 (ix1 j) (ix2 j (0 : Fin 1)) (by
      rw [Shape.rowMajor_val_one, Shape.rowMajor_val_two]; show j.val * 1 + 0 = j.val; omega))))
  exact congrArg₂ (fun a b : EReal => a * b) (e1.trans (unitRows_apply r b)) e2

theorem oneWord_apply (v : Vec Ideal S1 .f32) : oneWord v (ix2 (0 : Fin 1) (0 : Fin 1)) = v (ix1 (0 : Fin 1)) :=
  shapeCast_apply v shapeCasts_S1_S1x1 _ _ (by rw [Shape.rowMajor_val_one, Shape.rowMajor_val_two]; rfl)

end Cert.KernelIdeal.Hand
-- ==== Proof.V.Stream.lean ====
/-
  The two streams the kernel computes, position by position: a two-layer network of the latents.
-/
module

public import proofs.«01_k».proof.Proof.V.Host

@[expose] public section

set_option maxRecDepth 16384

noncomputable section

/-- One output of a two-layer network: hidden units `tanh (Σ zₗ Wₗⱼ + bⱼ)`, output `tanh (Σ hⱼ wⱼ + b')`. -/
def Cert.Curve.network (z : Fin 8 → EReal) (W : Fin 8 → Fin 8 → EReal) (b w : Fin 8 → EReal) (b' : EReal) : EReal :=
  Idealize.ShloMosaic.Ideal.tanh ((∑ j, Idealize.ShloMosaic.Ideal.tanh ((∑ l, z l * W l j) + b j) * w j) + b')

namespace Cert.KernelIdeal.Hand

open Cert.KernelIdeal Cert.KernelIdeal.Gen Cert.Curve
open Idealize.ShloMosaic hiding eq_ix1 eq_ix2 eq_ix3 ix1 ix2 ix3 ix4 addf_apply mulf_apply subf_apply divf_apply maximumf_apply minimumf_apply
open ValueIdx

/-! ## The body's rows at a position -/

/-- One chunk's hidden units before their bias, as the kernel computes them. -/
abbrev hiddenOf (z : Vec Ideal S4x1x2000x8 .f32) (w1 : Vec Ideal S8x8 .f32) (b : Fin 4) : FVec Ideal S8x2000 .f32 :=
  matmul (F := Ideal) (φ₁ := .f32) (φ₂ := .f32) dot_S8x8_S2000x8_S8x2000_0_1_1_0_n_n none w1 (shapeCast S2000x8 (chunkRow z b) shapeCasts_S1x1x2000x8_S2000x8 : FVec Ideal S2000x8 .f32)
    (constant S8x2000 .f32 0x00000000#32)

theorem hiddenOf_apply (z : Vec Ideal S4x1x2000x8 .f32) (w1 : Vec Ideal S8x8 .f32) (b : Fin 4) (j : Fin 8) (p : Fin 2000) :
    (hiddenOf z w1 b (ix2 j p) : EReal) = ∑ l : Fin 8, (w1 (ix2 l j) : EReal) * (z (ix4 b (0 : Fin 1) p l) : EReal) := by
  refine (Ideal.matmul_constant_zero_apply dot_S8x8_S2000x8_S8x2000_0_1_1_0_n_n none _ _ (ix2 j p)).trans ?_
  rw [← Equiv.sum_comp (contrEquiv1 dot_S8x8_S2000x8_S8x2000_0_1_1_0_n_n 8 rfl rfl).symm]
  refine Finset.sum_congr rfl fun l _ => ?_
  have e1 : dot_S8x8_S2000x8_S8x2000_0_1_1_0_n_n.lhsIdx (ix2 j p) ((contrEquiv1 dot_S8x8_S2000x8_S8x2000_0_1_1_0_n_n 8 rfl rfl).symm l) = ix2 l j := by
    funext a; match a with | ⟨0, _⟩ => rfl | ⟨1, _⟩ => rfl
  have e2 : dot_S8x8_S2000x8_S8x2000_0_1_1_0_n_n.rhsIdx (ix2 j p) ((contrEquiv1 dot_S8x8_S2000x8_S8x2000_0_1_1_0_n_n 8 rfl rfl).symm l) = ix2 p l := by
    funext a; match a with | ⟨0, _⟩ => rfl | ⟨1, _⟩ => rfl
  rw [e1, e2]
  refine congrArg (fun y : EReal => (w1 (ix2 l j) : EReal) * y) ?_
  exact shapeCast_apply (chunkRow z b) shapeCasts_S1x1x2000x8_S2000x8 (ix2 p l) (ix4 (0 : Fin 1) (0 : Fin 1) p l) (by
    rw [Shape.rowMajor_val_four, Shape.rowMajor_val_two]
    show ((0 * 1 + 0) * 2000 + p.val) * 8 + l.val = p.val * 8 + l.val; omega)

/-- The four batch rows' hidden units, stacked. -/
def stacked (z : Vec Ideal S4x1x2000x8 .f32) (w1 : Vec Ideal S8x8 .f32) : List ((s : Shape) × (s.Idx → Ideal .f32)) :=
  [⟨S8x2000, hiddenOf z w1 0⟩, ⟨S8x2000, hiddenOf z w1 1⟩, ⟨S8x2000, hiddenOf z w1 2⟩, ⟨S8x2000, hiddenOf z w1 3⟩]

theorem stacked_apply (z : Vec Ideal S4x1x2000x8 .f32) (w1 : Vec Ideal S8x8 .f32) (b : Fin 4) (j : Fin 8) (k : Fin 32) (hk : k.val = j.val + 8 * b.val) (p : Fin 2000) :
    concatenate S32x2000 0 (stacked z w1) concatenates_S8x2000_S8x2000_S8x2000_S8x2000_S32x2000_d0 (ix2 k p) = hiddenOf z w1 b (ix2 j p) := by
  have key : ∀ (n : ℕ) (hn : n < 4), k.val = j.val + 8 * n →
      concatenate S32x2000 0 (stacked z w1) concatenates_S8x2000_S8x2000_S8x2000_S8x2000_S32x2000_d0 (ix2 k p) = hiddenOf z w1 ⟨n, hn⟩ (ix2 j p) := by
    intro n hn hk
    have piece : ∀ (pre : ℕ) (x₁ : S8x2000.Idx → Ideal .f32) (hx : (stacked z w1)[n]'hn = ⟨S8x2000, x₁⟩) (hp : _ = pre) (he : pre = 8 * n),
        concatenate S32x2000 0 (stacked z w1) concatenates_S8x2000_S8x2000_S8x2000_S8x2000_S32x2000_d0 (ix2 k p) = x₁ (ix2 j p) := fun pre x₁ hx hp he =>
      concatenate_apply_piece (t := S32x2000) (0 : Fin 2) (stacked z w1) concatenates_S8x2000_S8x2000_S8x2000_S8x2000_S32x2000_d0 (ix2 k p) n hn S8x2000 x₁ hx rfl pre hp
        (ix2 j p) (fun b hb => match b with | ⟨0, _⟩ => absurd rfl hb | ⟨1, _⟩ => rfl) (by subst he; show 8 * n + j.val = k.val; omega)
    interval_cases n
    · exact piece 0 _ rfl rfl rfl
    · exact piece 8 _ rfl rfl rfl
    · exact piece 16 _ rfl rfl rfl
    · exact piece 24 _ rfl rfl rfl
  exact key b.val b.isLt hk

/-- Both rows are the same network of their own arguments. -/
theorem eRowOf_eq (z : Vec Ideal S4x1x2000x8 .f32) (w1 : Vec Ideal S8x8 .f32) (b1 : Vec Ideal S32x1 .f32) (m2 : Vec Ideal S4x32 .f32) (b2 : Vec Ideal S1x1 .f32) :
    eRowOf z w1 b1 m2 b2 = xRowOf z w1 b1 m2 b2 := rfl

/-- The stacked hidden units after bias and `tanh`. -/
abbrev unitsOf (z : Vec Ideal S4x1x2000x8 .f32) (w1 : Vec Ideal S8x8 .f32) (b1 : Vec Ideal S32x1 .f32) : FVec Ideal S32x2000 .f32 :=
  tanh (addf (concatenate S32x2000 0 (stacked z w1) concatenates_S8x2000_S8x2000_S8x2000_S8x2000_S32x2000_d0 : FVec Ideal S32x2000 .f32)
    (broadcastTo S32x2000 (shapeCast S32x1 b1 shapeCasts_S32x1_S32x1) broadcasts_S32x1_S32x2000))

theorem unitsOf_apply (z : Vec Ideal S4x1x2000x8 .f32) (w1 : Vec Ideal S8x8 .f32) (b1 : Vec Ideal S32x1 .f32) (b : Fin 4) (j : Fin 8) (k : Fin 32)
    (hk : k.val = j.val + 8 * b.val) (p : Fin 2000) :
    (unitsOf z w1 b1 (ix2 k p) : EReal) = Ideal.tanh ((∑ l : Fin 8, (z (ix4 b (0 : Fin 1) p l) : EReal) * (w1 (ix2 l j) : EReal)) + (b1 (ix2 k (0 : Fin 1)) : EReal)) := by
  have h1 := (stacked_apply z w1 b j k hk p).trans (hiddenOf_apply z w1 b j p)
  have h2 : broadcastTo S32x2000 (shapeCast S32x1 b1 shapeCasts_S32x1_S32x1) broadcasts_S32x1_S32x2000 (ix2 k p) = b1 (ix2 k (0 : Fin 1)) := by
    rw [shapeCast_self]
    exact broadcastTo_apply b1 broadcasts_S32x1_S32x2000 (ix2 k p) (ix2 k (0 : Fin 1)) (fun a => match a with | ⟨0, _⟩ => rfl | ⟨1, _⟩ => rfl)
  refine congrArg Ideal.tanh ((congrArg₂ (fun a b : EReal => a + b) h1 h2).trans ?_)
  exact congrArg (fun y : EReal => y + (b1 (ix2 k (0 : Fin 1)) : EReal)) (Finset.sum_congr rfl fun l _ => mul_comm _ _)

theorem xRowOf_apply (z : Vec Ideal S4x1x2000x8 .f32) (w1 : Vec Ideal S8x8 .f32) (b1 : Vec Ideal S32x1 .f32) (m2 : Vec Ideal S4x32 .f32) (b2 : Vec Ideal S1x1 .f32)
    (r : Fin 4) (p : Fin 2000) :
    (xRowOf z w1 b1 m2 b2 (ix2 r p) : EReal)
      = Ideal.tanh ((∑ k : Fin 32, (m2 (ix2 r k) : EReal) * (unitsOf z w1 b1 (ix2 k p) : EReal)) + (b2 (ix2 (0 : Fin 1) (0 : Fin 1)) : EReal)) := by
  have h1 : (matmul (F := Ideal) (φ₁ := .f32) (φ₂ := .f32) dot_S4x32_S32x2000_S4x2000_1_0_0_1_n_n none (shapeCast S4x32 m2 shapeCasts_S4x32_S4x32 : FVec Ideal S4x32 .f32) (unitsOf z w1 b1)
      (constant S4x2000 .f32 0x00000000#32) (ix2 r p) : EReal) = ∑ k : Fin 32, (m2 (ix2 r k) : EReal) * (unitsOf z w1 b1 (ix2 k p) : EReal) := by
    refine (Ideal.matmul_constant_zero_apply dot_S4x32_S32x2000_S4x2000_1_0_0_1_n_n none _ _ (ix2 r p)).trans ?_
    rw [← Equiv.sum_comp (contrEquiv1 dot_S4x32_S32x2000_S4x2000_1_0_0_1_n_n 32 rfl rfl).symm, shapeCast_self]
    refine Finset.sum_congr rfl fun k _ => ?_
    have e1 : dot_S4x32_S32x2000_S4x2000_1_0_0_1_n_n.lhsIdx (ix2 r p) ((contrEquiv1 dot_S4x32_S32x2000_S4x2000_1_0_0_1_n_n 32 rfl rfl).symm k) = ix2 r k := by
      funext a; match a with | ⟨0, _⟩ => rfl | ⟨1, _⟩ => rfl
    have e2 : dot_S4x32_S32x2000_S4x2000_1_0_0_1_n_n.rhsIdx (ix2 r p) ((contrEquiv1 dot_S4x32_S32x2000_S4x2000_1_0_0_1_n_n 32 rfl rfl).symm k) = ix2 k p := by
      funext a; match a with | ⟨0, _⟩ => rfl | ⟨1, _⟩ => rfl
    rw [e1, e2]
  have h2 : broadcastTo S4x2000 (shapeCast S1x1 b2 shapeCasts_S1x1_S1x1) broadcasts_S1x1_S4x2000 (ix2 r p) = b2 (ix2 (0 : Fin 1) (0 : Fin 1)) := by
    rw [shapeCast_self]
    exact broadcastTo_apply b2 broadcasts_S1x1_S4x2000 (ix2 r p) (ix2 (0 : Fin 1) (0 : Fin 1)) (fun a => match a with | ⟨0, _⟩ => rfl | ⟨1, _⟩ => rfl)
  exact congrArg Ideal.tanh (congrArg₂ (fun a b : EReal => a + b) h1 h2)

/-- With the weights on the diagonal only the row's own hidden units count. -/
theorem xRowOf_network (z : Vec Ideal S4x1x2000x8 .f32) (w1 : Vec Ideal S8x8 .f32) (b : Vec Ideal S8 .f32) (w : Vec Ideal S8x1 .f32) (b' : Vec Ideal S1 .f32)
    (r : Fin 4) (p : Fin 2000) :
    (xRowOf z w1 (biasCol b) (diagWeights w) (oneWord b') (ix2 r p) : EReal)
      = network (fun l => z (ix4 r (0 : Fin 1) p l)) (fun l j => w1 (ix2 l j)) (fun j => b (ix1 j)) (fun j => w (ix2 j (0 : Fin 1))) (b' (ix1 (0 : Fin 1))) := by
  refine (xRowOf_apply z w1 (biasCol b) (diagWeights w) (oneWord b') r p).trans ?_
  unfold network
  refine congrArg Ideal.tanh (congrArg₂ (fun a b : EReal => a + b) ?_ (oneWord_apply b'))
  have hv : ∀ (a : Fin 4) (j : Fin 8), (finProdFinEquiv (a, j) : Fin (4 * 8)).val = j.val + 8 * a.val := fun a j => rfl
  rw [← Equiv.sum_comp (finProdFinEquiv (m := 4) (n := 8)) (fun k : Fin 32 => (diagWeights w (ix2 r k) : EReal) * (unitsOf z w1 (biasCol b) (ix2 k p) : EReal)),
    Fintype.sum_prod_type]
  rw [Finset.sum_eq_single r]
  · refine Finset.sum_congr rfl fun j _ => ?_
    rw [diagWeights_apply w r r j _ (hv r j), if_pos rfl, one_mul, mul_comm, unitsOf_apply z w1 (biasCol b) r j _ (hv r j) p, biasCol_apply b r j _ (hv r j)]
  · intro a _ ha
    refine Finset.sum_eq_zero fun j _ => ?_
    rw [diagWeights_apply w r a j _ (hv a j), if_neg (Ne.symm ha), zero_mul, zero_mul]
  · intro h; exact absurd (Finset.mem_univ _) h

/-! ## The two streams -/

/-- A stream at batch row `r` and position `k`, from its latents and weights. -/
def streamAt (z : Vec Ideal S4x250000x8 .f32) (w1 : Vec Ideal S8x8 .f32) (b : Vec Ideal S8 .f32) (w : Vec Ideal S8x1 .f32) (b' : Vec Ideal S1 .f32)
    (r : Fin 4) (k : Fin 250000) : EReal :=
  network (fun l => z (ix3 r k l)) (fun l j => w1 (ix2 l j)) (fun j => b (ix1 j)) (fun j => w (ix2 j (0 : Fin 1))) (b' (ix1 (0 : Fin 1)))

variable (m : (ℓ : Loc nD τ sig) → Buf (Elt Ideal) ℓ) (c : Dev nD)

/-- The x stream of the launch. -/
abbrev xAt (r : Fin 4) (k : Fin 250000) : EReal :=
  streamAt (argAt m c main_arg1) (argAt m c main_arg7) (argAt m c main_arg8) (argAt m c main_arg9) (argAt m c main_arg10) r k

/-- The noise stream of the launch. -/
abbrev eAt (r : Fin 4) (k : Fin 250000) : EReal :=
  streamAt (argAt m c main_arg2) (argAt m c main_arg11) (argAt m c main_arg12) (argAt m c main_arg13) (argAt m c main_arg14) r k

theorem xRowAt_eq (i : Fin 125) (r : Fin 4) (p : Fin 2000) (k : Fin 250000) (hk : k.val = 2000 * i.val + p.val) :
    (xRowAt m c i (ix2 r p) : EReal) = xAt m c r k := by
  unfold xRowAt
  rw [iblk_2, iblk_3, iblk_4, iblk_5, V_main_arg7, V_main_v22, V_main_v35, V_main_v39]
  refine (xRowOf_network _ _ _ _ _ r p).trans ?_
  show _ = streamAt _ _ _ _ _ r k
  unfold streamAt
  refine congrArg (fun z : Fin 8 → EReal => network z _ _ _ _) (funext fun l => ?_)
  exact (iblk_0 m c i r p l).trans ((congrFun (V_main_v17 m c) _).trans (chunked_apply _ r i p l k hk))

theorem eRowAt_eq (i : Fin 125) (r : Fin 4) (p : Fin 2000) (k : Fin 250000) (hk : k.val = 2000 * i.val + p.val) :
    (eRowAt m c i (ix2 r p) : EReal) = eAt m c r k := by
  unfold eRowAt
  rw [iblk_6, iblk_7, iblk_8, iblk_9, V_main_arg11, V_main_v26, V_main_v38, V_main_v40, eRowOf_eq]
  refine (xRowOf_network _ _ _ _ _ r p).trans ?_
  show _ = streamAt _ _ _ _ _ r k
  unfold streamAt
  refine congrArg (fun z : Fin 8 → EReal => network z _ _ _ _) (funext fun l => ?_)
  exact (iblk_1 m c i r p l).trans ((congrFun (V_main_v18 m c) _).trans (chunked_apply _ r i p l k hk))

end Cert.KernelIdeal.Hand
-- ==== Proof.V.Math.lean ====
/-
  The mathematics of the two programs, over the reals and the extended reals: the clipped rises of all segments add up to
  the segment formula, and the one-pass standardisation is the two-pass one.
-/
module

public import Idealize.ShloMosaic.PureOps.Ideal

@[expose] public section

noncomputable section

namespace Cert.Curve

open Idealize.ShloMosaic
open scoped BigOperators

/-- The rise the kernel adds for one segment: knots' heights `y0`, `y1`, left end `k` and width `w` in units of the range `d`
    above `mn`. -/
def rise (k w ε mn d x y0 y1 : EReal) : EReal :=
  (Ideal.div (y1 - y0) (w + ε) * Ideal.div 1 d) * max (min (x - (mn + k * d)) (w * d)) 0

/-- The kernel's sum after `n` segments, over the noise. -/
def riseSum (k : ℕ → EReal) (w ε mn d x noise : EReal) (Y : ℕ → EReal) : ℕ → EReal
  | 0 => Y 0 + noise
  | n + 1 => riseSum k w ε mn d x noise Y n + rise (k n) w ε mn d x (Y n) (Y (n + 1))

/-- The kernel's standard deviation, from the two sums. -/
def onePassStd (S S2 N : EReal) : EReal := Ideal.sqrt (Ideal.div (S2 - Ideal.div (S * S) N) (N - 1))

/-- The kernel's noise term. -/
def onePassNoise (c S S2 N e : EReal) : EReal :=
  Ideal.div ((0 - c) * Ideal.div S N) (onePassStd S S2 N) + Ideal.div c (onePassStd S S2 N) * e

/-- The reference's noise term: the mean, then the squared deviations' sum `V`. -/
def twoPassNoise (c S V N e : EReal) : EReal :=
  c * Ideal.div (e - Ideal.div S N) (Ideal.sqrt (Ideal.div V (N - 1)))

/-- Division by a nonzero real is the reals'. -/
theorem div_real (a b : ℝ) (h : b ≠ 0) : Ideal.div (a : EReal) (b : EReal) = ((a / b : ℝ) : EReal) := by
  rw [Ideal.div_coe h, ← EReal.coe_mul, mul_one_div]

/-- The lesser of two reals among the extended reals. -/
theorem coe_min (a b : ℝ) : ((min a b : ℝ) : EReal) = min (a : EReal) (b : EReal) := EReal.coe_strictMono.monotone.map_min

/-- The greater of two reals among the extended reals. -/
theorem coe_max (a b : ℝ) : ((max a b : ℝ) : EReal) = max (a : EReal) (b : EReal) := EReal.coe_strictMono.monotone.map_max

/-- One segment's rise over the reals. -/
def riseR (s : ℕ) (ε mn d x : ℝ) (Y : ℕ → ℝ) : ℝ :=
  (Y (s + 1) - Y s) / (1 / 19 + ε) * (1 / d) * max (min (x - (mn + (s / 19) * d)) (1 / 19 * d)) 0

theorem rise_real (s : ℕ) (ε mn d x : ℝ) (hε : 0 < ε) (hd : 0 < d) (Y : ℕ → ℝ) :
    rise ((s / 19 : ℝ) : EReal) ((1 / 19 : ℝ) : EReal) ε mn d x (Y s) (Y (s + 1)) = (riseR s ε mn d x Y : EReal) := by
  have h1 : (1 / 19 + ε : ℝ) ≠ 0 := by positivity
  unfold rise riseR
  rw [show (1 : EReal) = ((1 : ℝ) : EReal) from rfl, show (0 : EReal) = ((0 : ℝ) : EReal) from rfl]
  rw [← EReal.coe_sub, ← EReal.coe_add, div_real _ _ h1, div_real _ _ hd.ne', ← EReal.coe_mul, ← EReal.coe_mul, ← EReal.coe_add,
    ← EReal.coe_sub, ← EReal.coe_mul, ← coe_min, ← coe_max, ← EReal.coe_mul]

/-- The kernel's sum is a real plus the noise. -/
theorem riseSum_real (ε mn d x : ℝ) (hε : 0 < ε) (hd : 0 < d) (noise : EReal) (Y : ℕ → ℝ) (n : ℕ) :
    riseSum (fun s => ((s / 19 : ℝ) : EReal)) ((1 / 19 : ℝ) : EReal) ε mn d x noise (fun s => (Y s : EReal)) n
      = ((Y 0 + ∑ s ∈ Finset.range n, riseR s ε mn d x Y : ℝ) : EReal) + noise := by
  induction n with
  | zero => simp [riseSum]
  | succ n ih =>
    rw [riseSum, ih, rise_real n ε mn d x hε hd Y, Finset.sum_range_succ, ← add_assoc (Y 0), EReal.coe_add]
    exact add_right_comm _ _ _

/-- One rise where the segment lies wholly below, around, or above the normalised position `u`. -/
theorem riseR_eq (s j : ℕ) (ε mn d x u : ℝ) (hd : 0 < d) (Y : ℕ → ℝ) (hx : x - mn = u * d)
    (h0 : (j : ℝ) / 19 ≤ u) (h1 : u ≤ ((j : ℝ) + 1) / 19) :
    riseR s ε mn d x Y = (Y (s + 1) - Y s) / (1 / 19 + ε) * (if s < j then 1 / 19 else if s = j then u - j / 19 else 0) := by
  have hx' : x = mn + u * d := by linarith
  have hc : max (min (x - (mn + (s / 19) * d)) (1 / 19 * d)) 0
      = d * (if s < j then 1 / 19 else if s = j then u - j / 19 else 0) := by
    have e : x - (mn + (s / 19) * d) = (u - s / 19) * d := by rw [hx']; ring
    rw [e]
    split_ifs with hlt heq
    · have : (s : ℝ) + 1 ≤ j := by exact_mod_cast hlt
      rw [min_eq_right (mul_le_mul_of_nonneg_right (by linarith) hd.le), max_eq_left (by positivity)]; ring
    · subst heq
      rw [min_eq_left (mul_le_mul_of_nonneg_right (by linarith) hd.le), max_eq_left (mul_nonneg (by linarith) hd.le)]; ring
    · have : (j : ℝ) + 1 ≤ s := by exact_mod_cast (by omega : j + 1 ≤ s)
      rw [mul_zero, max_eq_right]
      exact (min_le_left _ _).trans (mul_nonpos_of_nonpos_of_nonneg (by linarith) hd.le)
  unfold riseR
  rw [hc]
  field_simp

/-- The rises add up to the segment formula. -/
theorem sum_riseR (j : ℕ) (hj : j < 19) (ε mn d x u : ℝ) (hε : 0 < ε) (hd : 0 < d) (Y : ℕ → ℝ) (hx : x - mn = u * d)
    (h0 : (j : ℝ) / 19 ≤ u) (h1 : u ≤ ((j : ℝ) + 1) / 19) :
    ∑ s ∈ Finset.range 19, riseR s ε mn d x Y
      = (Y j - Y 0) * (1 / 19) / (1 / 19 + ε) + (u - j / 19) * (Y (j + 1) - Y j) / (1 / 19 + ε) := by
  have step : ∀ n, ∑ s ∈ Finset.range n, riseR s ε mn d x Y
      = if n ≤ j then (Y n - Y 0) * (1 / 19) / (1 / 19 + ε)
        else (Y j - Y 0) * (1 / 19) / (1 / 19 + ε) + (u - j / 19) * (Y (j + 1) - Y j) / (1 / 19 + ε) := by
    intro n
    induction n with
    | zero => simp
    | succ n ih =>
      rw [Finset.sum_range_succ, ih, riseR_eq n j ε mn d x u hd Y hx h0 h1]
      rcases Nat.lt_trichotomy n j with h | h | h
      · rw [if_pos h.le, if_pos h, if_pos (by omega)]; ring
      · subst h
        rw [if_pos le_rfl, if_neg (lt_irrefl _), if_pos rfl, if_neg (by omega)]; ring
      · rw [if_neg (by omega), if_neg (by omega), if_neg (by omega), if_neg (by omega)]; ring
  rw [step, if_neg (by omega)]

/-- The squared deviations' sum from the two sums. -/
theorem sum_sq_dev {ι : Type} [Fintype ι] (E : ι → ℝ) (N : ℝ) (hN : N = Fintype.card ι) (h0 : N ≠ 0) :
    ∑ i, (E i - (∑ k, E k) / N) * (E i - (∑ k, E k) / N) = (∑ i, E i * E i) - (∑ k, E k) * (∑ k, E k) / N := by
  have h : ∀ i, (E i - (∑ k, E k) / N) * (E i - (∑ k, E k) / N)
      = E i * E i - 2 * ((∑ k, E k) / N) * E i + ((∑ k, E k) / N) * ((∑ k, E k) / N) := fun i => by ring
  simp only [h, Finset.sum_add_distrib, Finset.sum_sub_distrib, ← Finset.mul_sum, Finset.sum_const, Finset.card_univ, nsmul_eq_mul, ← hN]
  field_simp
  ring

/-- The one-pass noise is the two-pass noise. Where all values are equal both are the lower infinity. -/
theorem noise_eq {ι : Type} [Fintype ι] (E : ι → ℝ) (N c : ℝ) (hN : N = Fintype.card ι) (h1 : 1 < N) (hc : 0 < c) (i : ι) :
    onePassNoise c ((∑ k, E k : ℝ) : EReal) ((∑ k, E k * E k : ℝ) : EReal) N (E i)
      = twoPassNoise c ((∑ k, E k : ℝ) : EReal)
          ((∑ k, (E k - (∑ l, E l) / N) * (E k - (∑ l, E l) / N) : ℝ) : EReal) N (E i) := by
  have hN0 : N ≠ 0 := by linarith
  have hN1 : N - 1 ≠ 0 := by linarith
  have hv := sum_sq_dev E N hN hN0
  have hV0 : 0 ≤ ∑ k, (E k - (∑ l, E l) / N) * (E k - (∑ l, E l) / N) := Finset.sum_nonneg fun k _ => mul_self_nonneg _
  have hz : (∑ k, (E k - (∑ l, E l) / N) * (E k - (∑ l, E l) / N)) = 0 → E i - (∑ l, E l) / N = 0 := fun h =>
    mul_self_eq_zero.mp ((Finset.sum_eq_zero_iff_of_nonneg fun k _ => mul_self_nonneg _).mp h i (Finset.mem_univ i))
  unfold onePassNoise twoPassNoise onePassStd
  rw [show (1 : EReal) = ((1 : ℝ) : EReal) from rfl, show (0 : EReal) = ((0 : ℝ) : EReal) from rfl]
  simp only [← EReal.coe_sub, ← EReal.coe_mul, div_real _ _ hN0, div_real _ _ hN1]
  rw [← hv]
  generalize (∑ k, (E k - (∑ l, E l) / N) * (E k - (∑ l, E l) / N)) = V at *
  generalize (∑ k, E k) / N = μ at *
  rw [Ideal.sqrt_coe, if_neg (not_lt.mpr (div_nonneg hV0 (by linarith)))]
  rcases hV0.eq_or_lt with h | h
  · have hE := hz h.symm
    rw [← h, zero_div, Real.sqrt_zero, hE]
    have hEμ : E i = μ := by linarith
    rw [hEμ]
    unfold Ideal.div
    rw [show ((0 : ℝ) : EReal) = 0 from rfl, if_pos rfl, if_pos rfl, if_pos rfl, if_neg (lt_irrefl _), if_pos (EReal.coe_pos.mpr hc),
      EReal.coe_mul_bot_of_pos hc]
    by_cases hμ : μ < 0
    · rw [EReal.top_mul_coe_of_neg hμ, EReal.add_bot]
    · rw [if_neg, EReal.bot_add]
      rw [not_lt]
      exact_mod_cast (by nlinarith [not_lt.mp hμ] : (0 - c) * μ ≤ 0)
  · have hs : Real.sqrt (V / (N - 1)) ≠ 0 := (Real.sqrt_pos.mpr (div_pos h (by linarith))).ne'
    rw [div_real _ _ hs, div_real _ _ hs, div_real _ _ hs, ← EReal.coe_mul, ← EReal.coe_add, ← EReal.coe_mul]
    congr 1
    field_simp
    ring

end Cert.Curve

end
-- ==== Proof.V.RefStream.lean ====
/-
  The reference's two streams, its normalization's bounds and its noise term.
-/
module

public import proofs.«01_k».proof.Proof.V.Stream
public import proofs.«01_k».proof.Proof.V.Math
public import proofs.«01_k».proof.Proof.Gen.ReferenceIdeal.Read

@[expose] public section

set_option maxRecDepth 16384

noncomputable section

namespace Cert.Curve

open Idealize.ShloMosaic
open scoped BigOperators

/-- A hyperbolic tangent is a real. -/
theorem tanh_isReal (x : EReal) : ∃ y : ℝ, Ideal.tanh x = (y : EReal) := by
  induction x with
  | bot => exact ⟨-1, by rfl⟩
  | top => exact ⟨1, by rfl⟩
  | coe x => exact ⟨Real.tanh x, rfl⟩

theorem network_isReal (z : Fin 8 → EReal) (W : Fin 8 → Fin 8 → EReal) (b w : Fin 8 → EReal) (b' : EReal) :
    ∃ y : ℝ, network z W b w b' = (y : EReal) := tanh_isReal _

/-- A sum of reals among the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

end Cert.Curve

namespace Cert.ReferenceIdeal.Hand

open Cert.ReferenceIdeal Cert.ReferenceIdeal.Gen Cert.ReferenceIdeal.Read Cert.Curve
open Idealize.ShloMosaic hiding eq_ix1 eq_ix2 eq_ix3 ix1 ix2 ix3 ix4 addf_apply mulf_apply subf_apply divf_apply maximumf_apply minimumf_apply
open ValueIdx

section Streams

variable (z : Vec Ideal S4x250000x8 .f32) (w1 : Vec Ideal S8x8 .f32) (b : Vec Ideal S8 .f32) (w : Vec Ideal S8x1 .f32) (b' : Vec Ideal S1 .f32)

theorem hidden_apply (r : Fin 4) (k : Fin 250000) (j : Fin 8) :
    (val_main_v24 (F := Ideal) z w1 b (ix3 r k j) : EReal) = Ideal.tanh ((∑ l : Fin 8, (z (ix3 r k l) : EReal) * (w1 (ix2 l j) : EReal)) + (b (ix1 j) : EReal)) := by
  have h1 : (val_main_v20 (F := Ideal) z w1 (ix3 r k j) : EReal) = ∑ l : Fin 8, (z (ix3 r k l) : EReal) * (w1 (ix2 l j) : EReal) := by
    refine (val_main_v20_apply z w1 (ix3 r k j)).trans (Finset.sum_congr rfl fun l _ => ?_)
    have e1 : lidx_main_v20 (ix3 r k j) l = ix3 r k l := funext fun a => match a with | ⟨0, _⟩ => rfl | ⟨1, _⟩ => rfl | ⟨2, _⟩ => rfl
    have e2 : ridx_main_v20 (ix3 r k j) l = ix2 l j := funext fun a => match a with | ⟨0, _⟩ => rfl | ⟨1, _⟩ => rfl
    rw [e1, e2]
  have h2 : (val_main_v22 (F := Ideal) b (ix3 r k j) : EReal) = (b (ix1 j) : EReal) := by
    rw [val_main_v22_apply, val_main_v21_apply]
    exact congrArg b (funext fun a => match a with | ⟨0, _⟩ => rfl)
  exact congrArg Ideal.tanh (congrArg₂ (fun a b : EReal => a + b) h1 h2)

/-- The reference's stream at batch row `r` and position `k`. -/
theorem stream_apply (r : Fin 4) (k : Fin 250000) :
    (val_main_v30 (F := Ideal) z w1 b w b' (ix2 r k) : EReal)
      = network (fun l => z (ix3 r k l)) (fun l j => w1 (ix2 l j)) (fun j => b (ix1 j)) (fun j => w (ix2 j (0 : Fin 1))) (b' (ix1 (0 : Fin 1))) := by
  have e0 : idx_main_v30 (ix2 r k) = ix3 r k (0 : Fin 1) := funext fun a => match a with
    | ⟨0, _⟩ => Fin.ext (by show (r.val * 250000 + k.val) / 250000 = r.val; omega)
    | ⟨1, _⟩ => Fin.ext (by show (r.val * 250000 + k.val) / 1 % 250000 = k.val; omega)
    | ⟨2, _⟩ => rfl
  have h1 : (val_main_v25 (F := Ideal) z w1 b w (ix3 r k (0 : Fin 1)) : EReal)
      = ∑ j : Fin 8, Ideal.tanh ((∑ l : Fin 8, (z (ix3 r k l) : EReal) * (w1 (ix2 l j) : EReal)) + (b (ix1 j) : EReal)) * (w (ix2 j (0 : Fin 1)) : EReal) := by
    refine (val_main_v25_apply z w1 b w (ix3 r k (0 : Fin 1))).trans (Finset.sum_congr rfl fun j _ => ?_)
    have e1 : lidx_main_v25 (ix3 r k (0 : Fin 1)) j = ix3 r k j := funext fun a => match a with | ⟨0, _⟩ => rfl | ⟨1, _⟩ => rfl | ⟨2, _⟩ => rfl
    have e2 : ridx_main_v25 (ix3 r k (0 : Fin 1)) j = ix2 j (0 : Fin 1) := funext fun a => match a with | ⟨0, _⟩ => rfl | ⟨1, _⟩ => rfl
    rw [e1, e2]
    exact congrArg (fun y : EReal => y * (w (ix2 j (0 : Fin 1)) : EReal)) (hidden_apply z w1 b r k j)
  have h2 : (val_main_v27 (F := Ideal) b' (ix3 r k (0 : Fin 1)) : EReal) = (b' (ix1 (0 : Fin 1)) : EReal) := by
    rw [val_main_v27_apply, val_main_v26_apply]
    exact congrArg b' (funext fun a => match a with | ⟨0, _⟩ => rfl)
  rw [val_main_v30_apply, e0]
  exact congrArg Ideal.tanh (congrArg₂ (fun a b : EReal => a + b) h1 h2)

/-- The noise stream is the same network. -/
theorem noise_stream : val_main_v50 (F := Ideal) z w1 b w b' = val_main_v30 (F := Ideal) z w1 b w b' := rfl

/-- A row's lift: the position put back. -/
theorem lift_row (h : S4x250000.Reduces [1] S4) (r : Fin 4) (k : Fin 250000) : h.lift (ix1 r) k = ix2 r k :=
  funext fun a => Fin.ext (match a with | ⟨0, _⟩ => rfl | ⟨1, _⟩ => rfl)

theorem le_least (r : Fin 4) (y : EReal) :
    y ≤ (val_main_v31 (F := Ideal) z w1 b w b' (ix1 r) : EReal) ↔ ∀ k : Fin 250000, y ≤ (val_main_v30 (F := Ideal) z w1 b w b' (ix2 r k) : EReal) := by
  have h : S4x250000.Reduces [1] S4 := by decide
  have e := Host.reduce_eq_fold_single (FloatOps.minimumf (F := Ideal) (φ := .f32)) (val_main_v30 (F := Ideal) z w1 b w b') (val_main_cst_1 (F := Ideal))
    reducesTo_S4x250000_S4_d1 h h_S_ (ix1 r)
  have e' : (val_main_v31 (F := Ideal) z w1 b w b' (ix1 r) : EReal)
      = (Finset.univ : Finset (Fin 250000)).fold (min : EReal → EReal → EReal) (Ideal.ofBits .f32 0x7F800000#32) (fun k => (val_main_v30 (F := Ideal) z w1 b w b' (ix2 r k) : EReal)) :=
    e.trans (congrArg (fun f : Fin 250000 → EReal => (Finset.univ : Finset (Fin 250000)).fold (min : EReal → EReal → EReal) (Ideal.ofBits .f32 0x7F800000#32) f)
      (funext fun k => congrArg (val_main_v30 (F := Ideal) z w1 b w b') (lift_row h r k)))
  rw [e', word_top]
  refine (Finset.le_fold_min (β := EReal) y).trans ⟨fun h k => h.2 k (Finset.mem_univ _), fun h => ⟨le_top, fun k _ => h k⟩⟩

theorem greatest_le_iff (x : Vec Ideal S4x250000 .f32) (r : Fin 4) (y : EReal) :
    (Host.reduce (FloatOps.maximumf (F := Ideal) (φ := .f32)) x (val_main_cst_2 (F := Ideal)) reducesTo_S4x250000_S4_d1 h_S_ (ix1 r) : EReal) ≤ y
      ↔ ∀ k : Fin 250000, (x (ix2 r k) : EReal) ≤ y := by
  have h : S4x250000.Reduces [1] S4 := by decide
  have e := Host.reduce_eq_fold_single (FloatOps.maximumf (F := Ideal) (φ := .f32)) x (val_main_cst_2 (F := Ideal))
    reducesTo_S4x250000_S4_d1 h h_S_ (ix1 r)
  have e' : (Host.reduce (FloatOps.maximumf (F := Ideal) (φ := .f32)) x (val_main_cst_2 (F := Ideal)) reducesTo_S4x250000_S4_d1 h_S_ (ix1 r) : EReal)
      = (Finset.univ : Finset (Fin 250000)).fold (max : EReal → EReal → EReal) (Ideal.ofBits .f32 0xFF800000#32) (fun k => (x (ix2 r k) : EReal)) :=
    e.trans (congrArg (fun f : Fin 250000 → EReal => (Finset.univ : Finset (Fin 250000)).fold (max : EReal → EReal → EReal) (Ideal.ofBits .f32 0xFF800000#32) f)
      (funext fun k => congrArg x (lift_row h r k)))
  rw [e', word_bot]
  refine (Finset.fold_max_le (β := EReal) y).trans ⟨fun h k => h.2 k (Finset.mem_univ _), fun h => ⟨bot_le, fun k _ => h k⟩⟩

/-- The position within its row's range, given the row's values and its least and greatest. -/
theorem position_apply (X : Fin 250000 → ℝ) (r : Fin 4) (hX : ∀ k, (val_main_v30 (F := Ideal) z w1 b w b' (ix2 r k) : EReal) = (X k : EReal))
    (mn mx : ℝ) (hmn : ∀ y : EReal, y ≤ (mn : EReal) ↔ ∀ k, y ≤ (X k : EReal)) (hmx : ∀ y : EReal, (mx : EReal) ≤ y ↔ ∀ k, (X k : EReal) ≤ y)
    (hlt : mn < mx) (k : Fin 250000) :
    (val_main_v39 (F := Ideal) z w1 b w b' (ix2 k r) : EReal) = (((X k - mn) / (mx - mn) : ℝ) : EReal) := by
  have h31 : (val_main_v31 (F := Ideal) z w1 b w b' (ix1 r) : EReal) = (mn : EReal) := by
    refine eq_of_forall_le_iff fun y => ?_
    rw [le_least, hmn]
    exact forall_congr' fun k => by rw [hX]
  have h34 : ∀ k, (val_main_v34 (F := Ideal) z w1 b w b' (ix2 r k) : EReal) = ((X k - mn : ℝ) : EReal) := by
    intro k
    have h33 : (val_main_v33 (F := Ideal) z w1 b w b' (ix2 r k) : EReal) = (mn : EReal) := by
      rw [val_main_v33_apply, val_main_v32_apply, ← h31]
      exact congrArg (val_main_v31 (F := Ideal) z w1 b w b') (funext fun a => match a with | ⟨0, _⟩ => rfl)
    exact (congrArg₂ (fun a b : EReal => a - b) (hX k) h33).trans (EReal.coe_sub _ _).symm
  have hle : ∀ k, X k ≤ mx := fun k => EReal.coe_le_coe_iff.1 ((hmx _).1 (le_refl _) k)
  have hatt : ∃ k, X k = mx := by
    obtain ⟨k0, h0⟩ := Finite.exists_max X
    exact ⟨k0, le_antisymm (hle k0) (EReal.coe_le_coe_iff.1 ((hmx _).2 fun k => EReal.coe_le_coe_iff.2 (h0 k)))⟩
  have h35 : (val_main_v35 (F := Ideal) z w1 b w b' (ix1 r) : EReal) = ((mx - mn : ℝ) : EReal) := by
    refine eq_of_forall_ge_iff fun y => ?_
    refine (greatest_le_iff _ r y).trans ⟨fun h => ?_, fun h k => ?_⟩
    · obtain ⟨k0, h0⟩ := hatt
      have := h k0
      rwa [h34, h0] at this
    · rw [h34]
      exact le_trans (EReal.coe_le_coe_iff.2 (by linarith [hle k])) h
  have h37 : (val_main_v37 (F := Ideal) z w1 b w b' (ix2 r k) : EReal) = ((mx - mn : ℝ) : EReal) := by
    rw [val_main_v37_apply, val_main_v36_apply, ← h35]
    exact congrArg (val_main_v35 (F := Ideal) z w1 b w b') (funext fun a => match a with | ⟨0, _⟩ => rfl)
  have e39 : idx_main_v39 (ix2 k r) = ix2 r k := funext fun a => match a with | ⟨0, _⟩ => rfl | ⟨1, _⟩ => rfl
  rw [val_main_v39_apply, e39]
  refine ((val_main_v38_apply (F := Ideal) z w1 b w b' (ix2 r k)).trans (congrArg₂ Ideal.div (h34 k) h37)).trans ?_
  exact div_real _ _ (sub_pos.2 hlt).ne'

/-- The noise term: the deviation over the sample deviation, given the noise's values. -/
theorem noise_apply (E : S250000x4.Idx → ℝ) (hE : ∀ j, (val_main_v51 (F := Ideal) z w1 b w b' j : EReal) = (E j : EReal)) (i : S250000x4.Idx) :
    (val_main_v111 (F := Ideal) z w1 b w b' i : EReal)
      = twoPassNoise ((13421773 / 2 ^ 27 : ℝ) : EReal) ((∑ k, E k : ℝ) : EReal)
          ((∑ k, (E k - (∑ l, E l) / 1000000) * (E k - (∑ l, E l) / 1000000) : ℝ) : EReal) ((1000000 : ℝ) : EReal) (E i) := by
  have hz : (0 : EReal) = ((0 : ℝ) : EReal) := rfl
  have h52 : ∀ u, (val_main_v52 (F := Ideal) z w1 b w b' u : EReal) = ((∑ k, E k : ℝ) : EReal) := fun u => by
    refine (val_main_v52_apply z w1 b w b' u).trans ?_
    rw [Finset.sum_congr rfl fun j _ => hE j, sum_coe]
    have hw : (val_main_cst_3 (F := Ideal) (Shape.Idx.first h_S_) : EReal) = 0 := word_zero
    rw [hw, zero_add]
  have h53 : ∀ u, (val_main_v53 (F := Ideal) z w1 b w b' u : EReal) = (((∑ k, E k) / 1000000 : ℝ) : EReal) := fun u =>
    (congrArg₂ Ideal.div (h52 u) word_million).trans (div_real _ _ (by norm_num))
  have h55 : ∀ j, (val_main_v55 (F := Ideal) z w1 b w b' j : EReal) = ((E j - (∑ k, E k) / 1000000 : ℝ) : EReal) := fun j =>
    (congrArg₂ (fun a b : EReal => a - b) (hE j) ((val_main_v54_apply (F := Ideal) z w1 b w b' j).trans (h53 _))).trans (EReal.coe_sub _ _).symm
  have hcard : (Fintype.card S250000x4.Idx : ℝ) = 1000000 := by
    rw [Fintype.card_congr (idxEquiv2 (n0 := 250000) (n1 := 4))]
    simp only [Fintype.card_prod, Fintype.card_fin]; norm_num
  have hdev : ∑ j, (E j - (∑ k, E k) / 1000000) = 0 := by
    rw [Finset.sum_sub_distrib, Finset.sum_const, Finset.card_univ, nsmul_eq_mul, hcard]; ring
  have hm0 : ∀ u, (val_main_call3_call0_v0 (F := Ideal) z w1 b w b' u : EReal) = ((0 : ℝ) : EReal) := fun u => by
    refine (val_main_call3_call0_v0_apply z w1 b w b' u).trans ?_
    rw [Finset.sum_congr rfl fun j _ => h55 j, sum_coe, hdev]
    exact (congrArg (fun y : EReal => y + ((0 : ℝ) : EReal)) word_zero).trans (zero_add _)
  have hm4 : ∀ j, (val_main_call3_call0_v4 (F := Ideal) z w1 b w b' j : EReal) = ((0 : ℝ) : EReal) := fun j => by
    rw [val_main_call3_call0_v4_apply]
    refine (congrArg₂ Ideal.div ((val_main_call3_call0_v1_apply (F := Ideal) z w1 b w b' _).trans (hm0 _)) ((val_main_call3_call0_v2_apply (F := Ideal) _).trans word_million)).trans ?_
    rw [div_real _ _ (by norm_num), zero_div]
  have hd5 : ∀ j, (val_main_call3_call0_v5 (F := Ideal) z w1 b w b' j : EReal) = ((E j - (∑ k, E k) / 1000000 : ℝ) : EReal) := fun j =>
    (congrArg₂ (fun a b : EReal => a - b) (h55 j) (hm4 j)).trans ((EReal.coe_sub _ _).symm.trans (by rw [sub_zero]))
  have hd6 : ∀ j, (val_main_call3_call0_v6 (F := Ideal) z w1 b w b' j : EReal)
      = ((E j - (∑ k, E k) / 1000000) * (E j - (∑ k, E k) / 1000000) : ℝ) := fun j =>
    (congrArg₂ (fun a b : EReal => a * b) (hd5 j) (hd5 j)).trans (EReal.coe_mul _ _).symm
  have h9 : ∀ u, (val_main_call3_call0_v9 (F := Ideal) z w1 b w b' u : EReal)
      = ((∑ k, (E k - (∑ l, E l) / 1000000) * (E k - (∑ l, E l) / 1000000) : ℝ) : EReal) := fun u => by
    refine (val_main_call3_call0_v9_apply z w1 b w b' u).trans ?_
    rw [Finset.sum_congr rfl fun j _ => hd6 j, sum_coe]
    have hw : (val_main_call3_call0_cst_2 (F := Ideal) (Shape.Idx.first h_S_) : EReal) = 0 := word_zero
    rw [hw, zero_add]
  have h7 : ∀ u, (val_main_call3_call0_v7 (F := Ideal) u : EReal) = ((1 : ℝ) : EReal) := fun u => by
    show ((((1#32 : BitVec 32).toInt : ℝ)) : EReal) = _
    norm_num
  have h8 : ∀ u, (val_main_call3_call0_v8 (F := Ideal) u : EReal) = ((1000000 : ℝ) : EReal) - 1 := fun u =>
    congrArg₂ (fun a b : EReal => a - b) word_million (h7 u)
  have hpos : ∀ u, val_main_call3_call0_v11 (F := Ideal) u = 1#1 := fun u => by
    show BitVec.ofBool (decide ((Ideal.ofBits .f32 0x00000000#32 : EReal) < (val_main_call3_call0_v8 (F := Ideal) u : EReal))) = 1#1
    rw [word_zero, h8, show ((1000000 : ℝ) : EReal) - 1 = ((1000000 - 1 : ℝ) : EReal) from (EReal.coe_sub _ _).symm, hz, decide_eq_true (EReal.coe_lt_coe_iff.2 (by norm_num))]
    rfl
  have hv : ∀ u, (val_main_call3_v0 (F := Ideal) z w1 b w b' u : EReal)
      = Ideal.div ((∑ k, (E k - (∑ l, E l) / 1000000) * (E k - (∑ l, E l) / 1000000) : ℝ) : EReal) (((1000000 : ℝ) : EReal) - 1) := fun u => by
    refine (val_main_call3_v0_apply (F := Ideal) z w1 b w b' u).trans ?_
    exact (if_pos (hpos u)).trans (congrArg₂ Ideal.div (h9 u) (h8 u))
  have h57 : (val_main_v57 (F := Ideal) z w1 b w b' i : EReal)
      = Ideal.sqrt (Ideal.div ((∑ k, (E k - (∑ l, E l) / 1000000) * (E k - (∑ l, E l) / 1000000) : ℝ) : EReal) (((1000000 : ℝ) : EReal) - 1)) :=
    (val_main_v57_apply (F := Ideal) z w1 b w b' i).trans (congrArg Ideal.sqrt (hv _))
  have h55' : (val_main_v55 (F := Ideal) z w1 b w b' i : EReal) = (E i : EReal) - Ideal.div ((∑ k, E k : ℝ) : EReal) ((1000000 : ℝ) : EReal) := by
    rw [h55, div_real _ _ (by norm_num), EReal.coe_sub]
  unfold twoPassNoise
  exact congrArg₂ (fun a b : EReal => a * b) ((val_main_v110_apply (F := Ideal) i).trans word_weight) (congrArg₂ Ideal.div h55' h57)

end Streams

end Cert.ReferenceIdeal.Hand

end
-- ==== Proof.V.Pre.lean ====
/-
  What the precondition says of the x stream.
-/
module

public import proofs.«01_k».proof.Pre_rows_vary
public import proofs.«01_k».proof.Proof.V.RefStream

@[expose] public section

set_option maxRecDepth 16384

noncomputable section

namespace Cert.ReferenceIdeal.Hand

open Cert.ReferenceIdeal Cert.ReferenceIdeal.Gen Cert.ReferenceIdeal.Read Cert.Curve
open Idealize.ShloMosaic hiding eq_ix1 eq_ix2 eq_ix3 ix1 ix2 ix3 ix4 addf_apply mulf_apply subf_apply divf_apply maximumf_apply minimumf_apply
open ValueIdx

/-- The relations the precondition's operations state. -/
instance preFacts : Cert.Pre_rows_vary.Facts where
  bcast_S8_S1x1x8_2 := bcast_S8_S1x1x8_2
  bcast_S1x1x8_S4x250000x8_0_1_2 := bcast_S1x1x8_S4x250000x8_0_1_2
  bcast_S1_S1x1x1_2 := bcast_S1_S1x1x1_2
  bcast_S1x1x1_S4x250000x1_0_1_2 := bcast_S1x1x1_S4x250000x1_0_1_2
  shapeCasts_S4x250000x1_S4x250000 := shapeCasts_S4x250000x1_S4x250000
  reducesTo_S4x250000_S4_d1 := reducesTo_S4x250000_S4_d1
  h_S_ := h_S_
  reducesTo_S4_S_d0 := by decide
  dot_S4x250000x8_S8x8_S4x250000x8_2_0_01_1_n_n_wf := dot_S4x250000x8_S8x8_S4x250000x8_2_0_01_1_n_n_wf
  dot_S4x250000x8_S8x1_S4x250000x1_2_0_01_1_n_n_wf := dot_S4x250000x8_S8x1_S4x250000x1_2_0_01_1_n_n_wf

theorem andi_one : ∀ a b : BitVec 1, IntOp.andi a b = 1#1 → a = 1#1 ∧ b = 1#1 := by decide

/-- A conjunction of flags that is set has every flag set. -/
theorem all_of_fold {ι : Type} (s : Finset ι) (f : ι → BitVec 1) (h : s.fold (IntOp.andi (w := 1)) 1#1 f = 1#1) : ∀ i ∈ s, f i = 1#1 := by
  classical
  induction s using Finset.induction_on with
  | empty => intro i hi; exact absurd hi (Finset.notMem_empty i)
  | insert a s ha ih =>
    rw [Finset.fold_insert ha] at h
    obtain ⟨h1, h2⟩ := andi_one _ _ h
    intro i hi
    rcases Finset.mem_insert.1 hi with rfl | hi
    · exact h1
    · exact ih h2 i hi

/-- Values whose least is below their greatest differ. -/
theorem varies_of_lt {ι : Type} (X : ι → EReal) (a b : EReal) (ha : ∀ y, y ≤ a ↔ ∀ k, y ≤ X k) (hb : ∀ y, b ≤ y ↔ ∀ k, X k ≤ y) (h : a < b) :
    ∃ k k', X k < X k' := by
  by_contra hn
  have hle : ∀ k k', X k ≤ X k' := fun k k' => not_lt.1 fun h => hn ⟨k', k, h⟩
  exact absurd h (not_lt.2 ((hb a).2 fun k => (ha _).2 fun k' => hle k k'))

/-- A set comparison flag. -/
theorem lt_of_flag (x y : FVec Ideal S4 .f32) (i : S4.Idx) (h : cmpf .olt x y i = 1#1) : (x i : EReal) < (y i : EReal) := by
  by_contra hn
  have hz : BitVec.ofBool (decide ((x i : EReal) < (y i : EReal))) = 1#1 := h
  rw [decide_eq_false hn] at hz
  exact absurd hz (by decide)

/-- Under the precondition every row of the x stream takes two values. -/
theorem vary_of_pre (a0 : Vec Ideal S4x8 .f32) (z e : Vec Ideal S4x250000x8 .f32) (a3 : Vec Ideal S8x8 .f32) (a4 : Vec Ideal S8 .f32) (a5 : Vec Ideal S8x20 .f32)
    (a6 : Vec Ideal S20 .f32) (w1 : Vec Ideal S8x8 .f32) (b : Vec Ideal S8 .f32) (w : Vec Ideal S8x1 .f32) (b' : Vec Ideal S1 .f32) (a11 : Vec Ideal S8x8 .f32)
    (a12 : Vec Ideal S8 .f32) (a13 : Vec Ideal S8x1 .f32) (a14 : Vec Ideal S1 .f32) (a15 : IVec S4 32)
    (h : Cert.Pre_rows_vary.fn (F := Ideal) a0 z e a3 a4 a5 a6 w1 b w b' a11 a12 a13 a14 a15 = fun _ => 1#1) (r : Fin 4) :
    ∃ k k', (val_main_v30 (F := Ideal) z w1 b w b' (ix2 r k) : EReal) < (val_main_v30 (F := Ideal) z w1 b w b' (ix2 r k') : EReal) := by
  have hf : Host.reduce (IntOp.andi (w := 1))
      (cmpf .olt (val_main_v31 (F := Ideal) z w1 b w b')
        (Host.reduce (FloatOps.maximumf (F := Ideal) (φ := .f32)) (val_main_v30 (F := Ideal) z w1 b w b') (val_main_cst_2 (F := Ideal)) reducesTo_S4x250000_S4_d1 h_S_))
      (constantI S_ 1 1#1) preFacts.reducesTo_S4_S_d0 h_S_ (Shape.Idx.first h_S_) = 1#1 := congrFun h (Shape.Idx.first h_S_)
  rw [Host.reduce_eq_fold (IntOp.andi (w := 1)) _ _ preFacts.reducesTo_S4_S_d0 h_S_] at hf
  have hr := all_of_fold _ _ hf (ix1 r) (Finset.mem_filter.2 ⟨Finset.mem_univ _, funext fun a => a.elim0⟩)
  have hlt := lt_of_flag _ _ _ hr
  exact varies_of_lt (fun k => (val_main_v30 (F := Ideal) z w1 b w b' (ix2 r k) : EReal)) _ _ (le_least z w1 b w b' r) (greatest_le_iff _ r) hlt

end Cert.ReferenceIdeal.Hand

end
-- ==== Proof.V.Out.lean ====
/- What the kernel's run leaves in its result array. -/
module

public import proofs.«01_k».proof.Proof.V.Host
public import proofs.«01_k».proof.Proof.KI.Body

@[expose] public section

set_option maxRecDepth 16384

noncomputable section

namespace Cert.KernelIdeal.Hand

open Cert.KernelIdeal Cert.KernelIdeal.Gen
open Idealize.ShloMosaic hiding eq_ix1 eq_ix2 eq_ix3 ix1 ix2 ix3 ix4 addf_apply mulf_apply subf_apply divf_apply maximumf_apply minimumf_apply
open Idealize.ShloMosaic.TcCoe Idealize.ShloMosaic.Tactic
open Idealize.SL Idealize.SL.Sem
open Idealize.ShloMosaic.Pipeline (Dat Cfg Window)
open ValueIdx

variable (m : (ℓ : Loc nD τ sig) → Buf (Elt Ideal) ℓ) (c : Dev nD)

/-- The point of the second phase that writes a chunk. -/
def writePt (i : Fin 125) : Fin cfg0.N := ⟨125 + i.val, by have := i.isLt; show 125 + i.val < 250; omega⟩

/-- The chunks of the result, one after the other. -/
def chunksOut : Vec Ideal S125x2000x4 .f32 := fun j => (blockAt m c (writePt (j 0)) : Vec Ideal S1x2000x4 .f32) (ix3 (0 : Fin 1) (j 1 : Fin 2000) (j 2 : Fin 4))

/-- In the second phase the output window is at one chunk after the other. -/
theorem write_index : ∀ t : Fin cfg0.N, 125 ≤ t.val → win0_11.index t 0 = t.val - 125 := by decide +kernel

theorem written (t : Fin cfg0.N) (h : 125 ≤ t.val) (y : S1x2000x4.Idx) (j : S125x2000x4.Idx)
    (h0 : (j 0).val = (t.val - 125) * 1 + 1 * (y 0).val) (h1 : (j 1).val = 0 * 2000 + 1 * (y 1).val) (h2 : (j 2).val = 0 * 4 + 1 * (y 2).val) :
    (blockAt m c t : Vec Ideal S1x2000x4 .f32) y = chunksOut m c j := by
  have hy : (y 0).val < 1 := (y 0).isLt
  have ht : writePt (j 0) = t := Fin.ext (by show 125 + (j 0).val = t.val; omega)
  have e : y = ix3 (0 : Fin 1) (j 1 : Fin 2000) (j 2 : Fin 4) := by
    funext a
    apply Fin.ext
    match a with
    | ⟨0, _⟩ => show (y 0).val = 0; omega
    | ⟨1, _⟩ => show (y 1).val = (j 1).val; omega
    | ⟨2, _⟩ => show (y 2).val = (j 2).val; omega
  exact (congrArg (blockAt m c t : S1x2000x4.Idx → EReal) e).trans
    (congrArg (fun t => (blockAt m c t : Vec Ideal S1x2000x4 .f32) (ix3 (0 : Fin 1) (j 1 : Fin 2000) (j 2 : Fin 4))) ht.symm)

theorem arrAt_out : (dats m 0 c).arrAt 11 cfg0.N = chunksOut m c := by
  refine Dat.arrAt_eq_of_covers (dats m 0 c) 11 (chunksOut m c) (by decide +kernel) ?_
  intro t hf y
  have ht : 125 ≤ t.val := by
    by_contra h
    rw [out_noFlush t (by omega)] at hf
    exact absurd hf (by decide)
  rw [after_11 m c t]
  exact written m c t ht y _ (by rw [← write_index t ht]; rfl) rfl rfl

/-- The result array, all positions of a row one after the other. -/
def result : Vec Ideal S250000x4 .f32 := shapeCast S250000x4 (chunksOut m c) shapeCasts_S125x2000x4_S250000x4

theorem tail_out : Pipeline.afterTail₀ cfgs (dats m) 0 (V0 m) [hostOps1] c main_v42 = result m c := by
  unfold Pipeline.afterTail₀
  simp only [List.flatten_cons, List.flatten_nil, List.append_nil]
  have e := Pipeline.withArrays_arr spec0 (by decide) c (V0 m c) (fun w => (dats m 0 c).arrAt w cfg0.N) 11
  rw [arrAt_out] at e
  show StableHlo.after hostOps1 _ _ = _
  after_results
  exact congrArg (fun x : Vec Ideal S125x2000x4 .f32 => shapeCast S250000x4 x shapeCasts_S125x2000x4_S250000x4) e

theorem result_apply (i : Fin 125) (p : Fin 2000) (r : Fin 4) (k : Fin 250000) (hk : k.val = 2000 * i.val + p.val) :
    result m c (ix2 k r) = (blockAt m c (writePt i) : Vec Ideal S1x2000x4 .f32) (ix3 (0 : Fin 1) p r) :=
  shapeCast_apply (chunksOut m c) shapeCasts_S125x2000x4_S250000x4 (ix2 k r) (ix3 i p r) (by
    rw [Shape.rowMajor_val_two, Shape.rowMajor_val_three]
    show (i.val * 2000 + p.val) * 4 + r.val = k.val * 4 + r.val
    omega)

/-- The run leaves the result array, every argument as it was. -/
theorem run_out (ρ : Dev nD → PrngReg) :
    θ_run defs (onTc (τ := τ) (main (F := Ideal))) ⟨m, fun _ => 0, ρ⟩ (fun r => ∀ c : Dev nD,
      r.2.mem ((c.tc : Thread nD τ).loc main_v42) = result m c) :=
  (θ_run defs _ _).mono (fun _ h c => ((h c).2 main_v42 (Pipeline.mem_restRefs_of main_v42 (by decide) (by decide))).trans (tail_out m c)) (run_main m ρ)

end Cert.KernelIdeal.Hand
-- ==== Proof.V.Words.lean ====
/-
  The ten running words: after all chunks, the first four are the rows' least values, the next four the greatest, the last two
  the noise's sum and its squares' sum.
-/
module

public import proofs.«01_k».proof.Proof.KI.Invar
public import proofs.«01_k».proof.Proof.V.Consts
public import Idealize.ShloMosaic.PureOps.Ideal.Laws
public import Idealize.ShloMosaic.Lib.ValueLayout

@[expose] public section

set_option maxRecDepth 16384

noncomputable section

namespace Cert.KernelIdeal.Hand

open Cert.KernelIdeal Cert.KernelIdeal.Gen Cert.Curve
open Idealize.ShloMosaic hiding eq_ix1 eq_ix2 eq_ix3 ix1 ix2 ix3 ix4 addf_apply mulf_apply subf_apply divf_apply maximumf_apply minimumf_apply
open ValueIdx

section Vectors

variable {F : FTy → Type} [FloatOps F] [Named F]

/-- Row `r` is a slice of the four. -/
theorem rowSlices (r : Fin 4) : S4x2000.Slices ![r.val, 0] S1x2000 := by
  fin_cases r
  · exact slices_S4x2000_o0_0_S1x2000
  · exact slices_S4x2000_o1_0_S1x2000
  · exact slices_S4x2000_o2_0_S1x2000
  · exact slices_S4x2000_o3_0_S1x2000

/-- One row as the kernel reduces it. -/
def rowOf (x : FVec F S4x2000 .f32) (r : Fin 4) : FVec F S1x1x2000 .f32 :=
  shapeCast S1x1x2000 (extractStridedSlice S1x2000 ![r.val, 0] x (rowSlices r)) shapeCasts_S1x2000_S1x1x2000

/-- A one-element reduction's element. -/
def theOne (v : FVec F S1 .f32) : F .f32 := extractAt ![0, 0, 0] (shapeCast S1x1x1 v shapeCasts_S1_S1x1x1) inpos_S1x1x1_p0_0_0

/-- A row's least value, as the kernel reduces it. -/
def rowLeast (x : FVec F S4x2000 .f32) (r : Fin 4) : F .f32 :=
  theOne (multiReduction .minimumf [1, 2] S1 (rowOf x r) 0x7F800000#32 reduces_S1x1x2000_S1 (.inl rfl) rfl)

/-- A row's greatest value. -/
def rowGreatest (x : FVec F S4x2000 .f32) (r : Fin 4) : F .f32 :=
  theOne (multiReduction .maximumf [1, 2] S1 (rowOf x r) 0xFF800000#32 reduces_S1x1x2000_S1 (.inl rfl) rfl)

/-- The sum of four rows. -/
def rowsTotal (x : FVec F S4x2000 .f32) : F .f32 :=
  theOne (multiReduction .add [1, 2] S1 (shapeCast S1x4x2000 x shapeCasts_S4x2000_S1x4x2000) 0x00000000#32 reduces_S1x4x2000_S1 (.inl rfl) rfl)

variable (i : grid0.Coords) (x e : FVec F S4x2000 .f32) (A : Vec F S1x16 .f32)

theorem wordNew_least (r : Fin 4) : wordNew i x e A (r.castLE (by decide))
    = Scalar.select (firstFlag i) (rowLeast x r) (Scalar.minimumf (A (wordIx (r.castLE (by decide)))) (rowLeast x r)) := by
  fin_cases r <;> rfl

theorem wordNew_greatest (r : Fin 4) : wordNew i x e A ((r.natAdd 4).castLE (by decide))
    = Scalar.select (firstFlag i) (rowGreatest x r) (Scalar.maximumf (A (wordIx ((r.natAdd 4).castLE (by decide)))) (rowGreatest x r)) := by
  fin_cases r <;> rfl

theorem wordNew_sum : wordNew i x e A 8 = Scalar.select (firstFlag i) (rowsTotal e) (Scalar.addf (A (wordIx 8)) (rowsTotal e)) := rfl

theorem wordNew_squares : wordNew i x e A 9
    = Scalar.select (firstFlag i) (rowsTotal (mulf e e)) (Scalar.addf (A (wordIx 9)) (rowsTotal (mulf e e))) := rfl

end Vectors

/-- A row read at a position. -/
theorem rowOf_apply (x : FVec Ideal S4x2000 .f32) (r : Fin 4) (p : Fin 2000) (u v : Fin 1) : rowOf x r (ix3 u v p) = x (ix2 r p) := by
  unfold rowOf
  rw [shapeCast_ab_1ab_apply]
  refine extractStridedSlice_apply _ _ _ _ _ fun a => ?_
  match a with
  | ⟨0, _⟩ => show r.val = r.val + v.val; omega
  | ⟨1, _⟩ => show p.val = 0 + p.val; omega

/-- A one-element array's element, by its only index. -/
theorem theOne_eq (v : FVec Ideal S1 .f32) : theOne v = v (ix1 0) :=
  congrArg v (funext fun a => match a with | ⟨0, _⟩ => Subsingleton.elim (α := Fin 1) _ _)

theorem drop_one {s : Shape} {axes : List (Fin s.rank)} (h : s.Reduces axes S1) (i : s.Idx) (j : S1.Idx) : h.drop i = j :=
  funext fun a => match a with | ⟨0, _⟩ => Subsingleton.elim (α := Fin 1) _ _

/-- The lower bounds of a row's least value are the row's. -/
theorem le_rowLeast (x : FVec Ideal S4x2000 .f32) (r : Fin 4) (b : EReal) :
    b ≤ (rowLeast x r : EReal) ↔ ∀ p : Fin 2000, b ≤ (x (ix2 r p) : EReal) := by
  have e : rowLeast x r = (Finset.univ : Finset S1x1x2000.Idx).fold (FloatOps.minimumf (F := Ideal) (φ := .f32))
      (FloatOps.ofBits .f32 0x7F800000#32) (rowOf x r) :=
    (theOne_eq _).trans ((multiReduction_minimumf_eq_fold (rowOf x r) _ reduces_S1x1x2000_S1 (.inl rfl) rfl (ix1 0)).trans
      (congrArg (fun s => Finset.fold _ _ _ s) (Finset.filter_true_of_mem fun i _ => drop_one _ i _)))
  rw [e]
  refine (Finset.le_fold_min (β := EReal) (s := Finset.univ) (f := (rowOf x r : S1x1x2000.Idx → EReal)) (b := Ideal.ofBits .f32 0x7F800000#32) b).trans ?_
  rw [word_top]
  constructor
  · intro h p
    rw [← rowOf_apply x r p 0 0]
    exact h.2 _ (Finset.mem_univ _)
  · intro h
    refine ⟨le_top, fun q _ => ?_⟩
    rw [show rowOf x r q = x (ix2 r (q 2)) from (congrArg _ (eq_ix3 q)).trans (rowOf_apply x r (q 2) (q 0) (q 1))]
    exact h (q 2)

/-- The upper bounds of a row's greatest value are the row's. -/
theorem rowGreatest_le (x : FVec Ideal S4x2000 .f32) (r : Fin 4) (b : EReal) :
    (rowGreatest x r : EReal) ≤ b ↔ ∀ p : Fin 2000, (x (ix2 r p) : EReal) ≤ b := by
  have e : rowGreatest x r = (Finset.univ : Finset S1x1x2000.Idx).fold (FloatOps.maximumf (F := Ideal) (φ := .f32))
      (FloatOps.ofBits .f32 0xFF800000#32) (rowOf x r) :=
    (theOne_eq _).trans ((multiReduction_maximumf_eq_fold (rowOf x r) _ reduces_S1x1x2000_S1 (.inl rfl) rfl (ix1 0)).trans
      (congrArg (fun s => Finset.fold _ _ _ s) (Finset.filter_true_of_mem fun i _ => drop_one _ i _)))
  rw [e]
  refine (Finset.fold_max_le (β := EReal) (s := Finset.univ) (f := (rowOf x r : S1x1x2000.Idx → EReal)) (b := Ideal.ofBits .f32 0xFF800000#32) b).trans ?_
  rw [word_bot]
  constructor
  · intro h p
    rw [← rowOf_apply x r p 0 0]
    exact h.2 _ (Finset.mem_univ _)
  · intro h
    refine ⟨bot_le, fun q _ => ?_⟩
    rw [show rowOf x r q = x (ix2 r (q 2)) from (congrArg _ (eq_ix3 q)).trans (rowOf_apply x r (q 2) (q 0) (q 1))]
    exact h (q 2)

/-- The sum of four rows is their elements' sum. -/
theorem rowsTotal_eq (x : FVec Ideal S4x2000 .f32) : (rowsTotal x : EReal) = ∑ q : S4x2000.Idx, (x q : EReal) := by
  refine (theOne_eq _).trans ((Ideal.multiReduction_add_total _ _ reduces_S1x4x2000_S1 (fun b => match b with | ⟨0, _⟩ => rfl) (.inl rfl) rfl _).trans ?_)
  exact Equiv.sum_comp (Shape.reshapeEquiv _) (x : S4x2000.Idx → EReal)

/-- The first chunk's flag chooses. -/
theorem select_first {α : Type} (i : Fin 125) (a b : α) :
    Scalar.select (firstFlag (grid0.coords (chunkPt i))) a b = if i.val = 0 then a else b := by
  have hc : (grid0.coords (chunkPt i) 1).val = i.val := (coords_chunk (chunkPt i)).trans (Nat.mod_eq_of_lt i.isLt)
  have hf : firstFlag (grid0.coords (chunkPt i)) = if i.val = 0 then 1#1 else 0#1 := by
    unfold firstFlag
    rw [hc]
    revert i; decide
  unfold Scalar.select
  rw [hf]
  by_cases h : i.val = 0
  · rw [if_pos h, if_pos h]; rfl
  · rw [if_neg h, if_neg (by decide), if_neg h]

variable (m : (l : Loc nD τ sig) → Buf (Elt Ideal) l) (c : Dev nD)

/-- The words one chunk further. -/
theorem wordsAt_succ (n : Fin 125) (j : Fin 16) : wordsAt m c (n.val + 1) (wordIx j)
    = wordNew (grid0.coords (chunkPt n)) (xRowAt m c n) (eRowAt m c n) (wordsAt m c n.val) j := by
  have h : wordsAt m c (n.val + 1) = wordsNew (grid0.coords (chunkPt n)) (xRowAt m c n) (eRowAt m c n) (wordsAt m c n.val) := by
    rw [wordsAt, dif_pos n.isLt]
  rw [h]; rfl

theorem le_words (n : ℕ) (hn : n < 125) (r : Fin 4) (b : EReal) :
    b ≤ (wordsAt m c (n + 1) (wordIx (r.castLE (by decide))) : EReal)
      ↔ ∀ i : Fin 125, i.val ≤ n → ∀ p : Fin 2000, b ≤ (xRowAt m c i (ix2 r p) : EReal) := by
  induction n with
  | zero =>
    rw [wordsAt_succ m c ⟨0, hn⟩, wordNew_least, select_first, if_pos rfl, le_rowLeast]
    constructor
    · intro h i hi
      rw [show i = ⟨0, hn⟩ from Fin.ext (by simpa using hi)]
      exact h
    · intro h
      exact h _ (le_refl _)
  | succ n ih =>
    rw [wordsAt_succ m c ⟨n + 1, hn⟩, wordNew_least, select_first, if_neg (Nat.succ_ne_zero n)]
    refine (le_min_iff (α := EReal)).trans ?_
    rw [ih (by omega), le_rowLeast]
    constructor
    · intro h i hi
      rcases Nat.lt_or_ge i.val (n + 1) with h1 | h1
      · exact h.1 i (by omega)
      · rw [show i = ⟨n + 1, hn⟩ from Fin.ext (Nat.le_antisymm hi h1)]
        exact h.2
    · intro h
      exact ⟨fun i hi => h i (by omega), h ⟨n + 1, hn⟩ (le_refl _)⟩

theorem words_le (n : ℕ) (hn : n < 125) (r : Fin 4) (b : EReal) :
    (wordsAt m c (n + 1) (wordIx ((r.natAdd 4).castLE (by decide))) : EReal) ≤ b
      ↔ ∀ i : Fin 125, i.val ≤ n → ∀ p : Fin 2000, (xRowAt m c i (ix2 r p) : EReal) ≤ b := by
  induction n with
  | zero =>
    rw [wordsAt_succ m c ⟨0, hn⟩, wordNew_greatest, select_first, if_pos rfl, rowGreatest_le]
    constructor
    · intro h i hi
      rw [show i = ⟨0, hn⟩ from Fin.ext (by simpa using hi)]
      exact h
    · intro h
      exact h _ (le_refl _)
  | succ n ih =>
    rw [wordsAt_succ m c ⟨n + 1, hn⟩, wordNew_greatest, select_first, if_neg (Nat.succ_ne_zero n)]
    refine (max_le_iff (α := EReal)).trans ?_
    rw [ih (by omega), rowGreatest_le]
    constructor
    · intro h i hi
      rcases Nat.lt_or_ge i.val (n + 1) with h1 | h1
      · exact h.1 i (by omega)
      · rw [show i = ⟨n + 1, hn⟩ from Fin.ext (Nat.le_antisymm hi h1)]
        exact h.2
    · intro h
      exact ⟨fun i hi => h i (by omega), h ⟨n + 1, hn⟩ (le_refl _)⟩

/-- A word that starts as the first chunk's total and grows by each chunk's is the sum of all. -/
theorem words_total (T : Fin 125 → EReal) (w : ℕ → EReal)
    (h : ∀ n : Fin 125, w (n.val + 1) = if n.val = 0 then T n else w n.val + T n) : w 125 = ∑ i, T i := by
  have step : ∀ n, n < 125 → w (n + 1) = ∑ i ∈ Finset.range (n + 1), (if hi : i < 125 then T ⟨i, hi⟩ else 0) := by
    intro n hn
    induction n with
    | zero => rw [h ⟨0, hn⟩]; simp
    | succ n ih =>
      rw [h ⟨n + 1, hn⟩, if_neg (Nat.succ_ne_zero n), Finset.sum_range_succ, ← ih (by omega), dif_pos hn]
  rw [step 124 (by decide), Finset.sum_range]
  exact Finset.sum_congr rfl fun i _ => dif_pos i.isLt

theorem words_sum : (wordsAt m c 125 (wordIx 8) : EReal) = ∑ i, ∑ q : S4x2000.Idx, (eRowAt m c i q : EReal) := by
  refine words_total (fun i => ∑ q : S4x2000.Idx, (eRowAt m c i q : EReal)) (fun n => wordsAt m c n (wordIx 8)) fun n => ?_
  show (wordsAt m c (n.val + 1) (wordIx 8) : EReal) = _
  rw [wordsAt_succ, wordNew_sum, select_first, ← rowsTotal_eq]
  rfl

theorem words_squares : (wordsAt m c 125 (wordIx 9) : EReal)
    = ∑ i, ∑ q : S4x2000.Idx, (eRowAt m c i q : EReal) * (eRowAt m c i q : EReal) := by
  refine words_total (fun i => ∑ q : S4x2000.Idx, (eRowAt m c i q : EReal) * (eRowAt m c i q : EReal)) (fun n => wordsAt m c n (wordIx 9)) fun n => ?_
  show (wordsAt m c (n.val + 1) (wordIx 9) : EReal) = _
  rw [wordsAt_succ, wordNew_squares, select_first]
  show _ = if _ then (∑ q : S4x2000.Idx, (mulf (eRowAt m c n) (eRowAt m c n) q : EReal)) else
    _ + (∑ q : S4x2000.Idx, (mulf (eRowAt m c n) (eRowAt m c n) q : EReal))
  rw [← rowsTotal_eq]
  rfl

end Cert.KernelIdeal.Hand

end
-- ==== Proof.V.Curve.lean ====
/-
  An output block read at one position: the kernel's payloads are one sum of nineteen rises, each of the same form.
-/
module

public import proofs.«01_k».proof.Proof.KI.Steps
public import proofs.«01_k».proof.Proof.V.Math
public import proofs.«01_k».proof.Proof.V.Consts
public import Idealize.ShloMosaic.Lib.ValueLayout

@[expose] public section

set_option maxRecDepth 16384

noncomputable section

namespace Cert.KernelIdeal.Hand

open Cert.KernelIdeal Cert.KernelIdeal.Gen Cert.Curve
open Idealize.ShloMosaic hiding ix1 ix2 ix3 ix4 addf_apply mulf_apply subf_apply divf_apply maximumf_apply minimumf_apply

section Vectors

variable {F : FTy → Type} [FloatOps F] [Named F]

/-- The knots as the kernel writes them. -/
def knotWord : ℕ → F .f32
  | 0 => Scalar.ofBits .f32 0x00000000#32
  | 1 => Named.named κ "knot1" 0x3D579436#32
  | 2 => Named.named κ "knot2" 0x3DD79436#32
  | 3 => Named.named κ "knot3" 0x3E21AF28#32
  | 4 => Named.named κ "knot4" 0x3E579436#32
  | 5 => Named.named κ "knot5" 0x3E86BCA2#32
  | 6 => Named.named κ "knot6" 0x3EA1AF28#32
  | 7 => Named.named κ "knot7" 0x3EBCA1AF#32
  | 8 => Named.named κ "knot8" 0x3ED79436#32
  | 9 => Named.named κ "knot9" 0x3EF286BD#32
  | 10 => Named.named κ "knot10" 0x3F06BCA2#32
  | 11 => Named.named κ "knot11" 0x3F1435E5#32
  | 12 => Named.named κ "knot12" 0x3F21AF28#32
  | 13 => Named.named κ "knot13" 0x3F2F286C#32
  | 14 => Named.named κ "knot14" 0x3F3CA1AF#32
  | 15 => Named.named κ "knot15" 0x3F4A1AF3#32
  | 16 => Named.named κ "knot16" 0x3F579436#32
  | 17 => Named.named κ "knot17" 0x3F650D79#32
  | 18 => Named.named κ "knot18" 0x3F7286BD#32
  | _ => Scalar.ofBits .f32 0x00000000#32

/-- One segment's rise added to the rows. -/
def addRise (k w ε : F .f32) (mn d inv : FVec F S4x1 .f32) (x acc : FVec F S4x2000 .f32) (hi lo : Vec F S4x1 .f32) : FVec F S4x2000 .f32 :=
  addf acc (mulf (broadcastTo S4x2000 (mulf (divf (subf (shapeCast S4x1 hi shapeCasts_S4x1_S4x1) (shapeCast S4x1 lo shapeCasts_S4x1_S4x1))
      (broadcast S4x1 (Scalar.addf w ε))) inv) broadcasts_S4x1_S4x2000)
    (maximumf (minimumf (subf x (broadcastTo S4x2000 (addf mn (mulf (broadcast S4x1 k) d)) broadcasts_S4x1_S4x2000))
      (broadcastTo S4x2000 (mulf (broadcast S4x1 w) d) broadcasts_S4x1_S4x2000)) (broadcast S4x2000 (Scalar.ofBits .f32 0x00000000#32))))

/-- The rows after `n` segments. -/
def rowsAfter (mn d inv : FVec F S4x1 .f32) (x y : FVec F S4x2000 .f32) (yp : Vec F S4x20 .f32) : ℕ → FVec F S4x2000 .f32
  | 0 => y
  | n + 1 => addRise (knotWord n) (knotWord 1) (Scalar.ofBits .f32 0x33D6BF95#32) mn d inv x (rowsAfter mn d inv x y yp n)
      (heightCol yp (Fin.ofNat 20 (n + 1))) (heightCol yp (Fin.ofNat 20 n))

/-- The rows before the first segment: the first knot's height and the noise. -/
def rowsStart (alpha beta : F .f32) (e : FVec F S4x2000 .f32) (y0 : Vec F S4x1 .f32) : FVec F S4x2000 .f32 :=
  addf (broadcastTo S4x2000 (shapeCast S4x1 y0 shapeCasts_S4x1_S4x1) broadcasts_S4x1_S4x2000)
    (addf (broadcast S4x2000 beta) (mulf (broadcast S4x2000 alpha) e))

/-- An output block is the rows after all segments, transposed. -/
theorem curveOf_rows (A : Vec F S1x16 .f32) (xr er : Vec F S1x4x2000 .f32) (yp : Vec F S4x20 .f32) :
    curveOf A xr er yp = shapeCast S1x2000x4 (transpose S2000x4 [1, 0]
      (rowsAfter
        (k0_pay23 (A (wordIx 0)) (A (wordIx 1)) (A (wordIx 2)) (A (wordIx 3)))
        (k0_pay24 (A (wordIx 0)) (A (wordIx 1)) (A (wordIx 2)) (A (wordIx 3)) (A (wordIx 4)) (A (wordIx 5)) (A (wordIx 6)) (A (wordIx 7)))
        (k0_pay25 (k0_pay24 (A (wordIx 0)) (A (wordIx 1)) (A (wordIx 2)) (A (wordIx 3)) (A (wordIx 4)) (A (wordIx 5)) (A (wordIx 6)) (A (wordIx 7)))
          (FloatOps.ofBits FTy.f32 1065353216#32))
        (k0_pay26 xr)
        (rowsStart (k0_pay21 (A (wordIx 8)) (A (wordIx 9))) (k0_pay22 (A (wordIx 8)) (A (wordIx 9)))
          (shapeCast S4x2000 er shapeCasts_S1x4x2000_S4x2000) (heightCol yp 0)) yp 19)
      transposes_S4x2000_p1_0_S2000x4) shapeCasts_S2000x4_S1x2000x4 := by
  rfl

end Vectors

open ValueIdx

/-- A column repeated along the positions. -/
theorem colBroadcast_apply (v : FVec Ideal S4x1 .f32) (r : Fin 4) (p : Fin 2000) :
    broadcastTo S4x2000 v broadcasts_S4x1_S4x2000 (ix2 r p) = v (ix2 r (0 : Fin 1)) :=
  broadcastTo_apply _ _ _ _ fun a => match a with | ⟨0, _⟩ => rfl | ⟨1, _⟩ => rfl

theorem zeroWord : (Scalar.ofBits .f32 0x00000000#32 : Ideal .f32) = 0 := word_zero

/-- One segment's rise at a position. -/
theorem addRise_apply (k w ε : Ideal .f32) (mn d inv : FVec Ideal S4x1 .f32) (x acc : FVec Ideal S4x2000 .f32) (hi lo : Vec Ideal S4x1 .f32)
    (r : Fin 4) (p : Fin 2000) :
    (addRise k w ε mn d inv x acc hi lo (ix2 r p) : EReal)
      = (acc (ix2 r p) : EReal) + (Ideal.div ((hi (ix2 r (0 : Fin 1)) : EReal) - lo (ix2 r (0 : Fin 1))) ((w : EReal) + ε) * inv (ix2 r (0 : Fin 1)))
        * max (min ((x (ix2 r p) : EReal) - (mn (ix2 r (0 : Fin 1)) + k * d (ix2 r (0 : Fin 1)))) (w * d (ix2 r (0 : Fin 1)))) 0 := by
  unfold addRise
  rw [shapeCast_self, shapeCast_self, zeroWord, addf_apply, mulf_apply, maximumf_apply, minimumf_apply, subf_apply, colBroadcast_apply,
    colBroadcast_apply, colBroadcast_apply]
  rfl

/-- The rows after `n` segments at a position. -/
theorem rowsAfter_apply (mn d inv : FVec Ideal S4x1 .f32) (x y : FVec Ideal S4x2000 .f32) (yp : Vec Ideal S4x20 .f32) (r : Fin 4) (p : Fin 2000)
    (hinv : (inv (ix2 r (0 : Fin 1)) : EReal) = Ideal.div 1 (d (ix2 r (0 : Fin 1)))) (noise : EReal)
    (hy : (y (ix2 r p) : EReal) = (yp (ix2 r 0) : EReal) + noise) (n : ℕ) :
    (rowsAfter mn d inv x y yp n (ix2 r p) : EReal)
      = riseSum (fun s => (knotWord (F := Ideal) s : EReal)) (knotWord (F := Ideal) 1 : EReal) (Scalar.ofBits (F := Ideal) .f32 0x33D6BF95#32 : EReal)
          (mn (ix2 r (0 : Fin 1))) (d (ix2 r (0 : Fin 1))) (x (ix2 r p)) noise (fun s => (yp (ix2 r (Fin.ofNat 20 s)) : EReal)) n := by
  induction n with
  | zero => exact hy
  | succ n ih =>
    unfold rowsAfter
    rw [addRise_apply, ih, hinv]
    rfl

/-- Knot `s` of nineteen segments is `s / 19`. -/
theorem knotWord_eq (s : ℕ) (h : s < 19) : (knotWord (F := Ideal) s : EReal) = ((s / 19 : ℝ) : EReal) := by
  interval_cases s
  · show (Scalar.ofBits .f32 0x00000000#32 : Ideal .f32) = _
    rw [zeroWord]; simp
  all_goals
    refine (IdealRules.named_const.ideal_named_scalar κ _ _ _ rfl).trans ?_
    norm_num

/-- The four one-element pieces of a column. -/
def pieces (a : Fin 4 → Ideal .f32) : List ((s : Shape) × (s.Idx → Ideal .f32)) :=
  [⟨S1x1, broadcast S1x1 (a 0)⟩, ⟨S1x1, broadcast S1x1 (a 1)⟩, ⟨S1x1, broadcast S1x1 (a 2)⟩, ⟨S1x1, broadcast S1x1 (a 3)⟩]

/-- Four words as a column. -/
theorem column_apply (a : Fin 4 → Ideal .f32) (r : Fin 4) : k0_pay23 (a 0) (a 1) (a 2) (a 3) (ix2 r (0 : Fin 1)) = a r := by
  have key : ∀ (k : ℕ) (hk : k < 4), k0_pay23 (a 0) (a 1) (a 2) (a 3) (ix2 (⟨k, hk⟩ : Fin 4) (0 : Fin 1)) = a ⟨k, hk⟩ := by
    intro k hk
    have piece : ∀ (pre : ℕ) (x₁ : S1x1.Idx → Ideal .f32)
        (hx : (pieces a)[k]'hk = ⟨S1x1, x₁⟩) (hp : _ = pre) (he : pre = k),
        k0_pay23 (a 0) (a 1) (a 2) (a 3) (ix2 (⟨k, hk⟩ : Fin 4) (0 : Fin 1)) = x₁ (ix2 (0 : Fin 1) (0 : Fin 1)) := fun pre x₁ hx hp he =>
      concatenate_apply_piece (t := S4x1) (0 : Fin 2) (pieces a) concatenates_S1x1_S1x1_S1x1_S1x1_S4x1_d0 (ix2 (⟨k, hk⟩ : Fin 4) (0 : Fin 1)) k hk S1x1 x₁ hx rfl pre hp
        (ix2 (0 : Fin 1) (0 : Fin 1)) (fun b hb => match b with | ⟨0, _⟩ => absurd rfl hb | ⟨1, _⟩ => rfl) (by subst he; rfl)
    interval_cases k
    · exact piece 0 _ rfl rfl rfl
    · exact piece 1 _ rfl rfl rfl
    · exact piece 2 _ rfl rfl rfl
    · exact piece 3 _ rfl rfl rfl
  exact key r.val r.isLt

/-- An output block at a position, from the words: the sum of the rises over the noise. -/
theorem curveOf_apply (A : Vec Ideal S1x16 .f32) (xr er : FVec Ideal S4x2000 .f32) (yp : Vec Ideal S4x20 .f32) (r : Fin 4) (p : Fin 2000) :
    (curveOf A (k0_pay10 xr) (k0_pay10 er) yp (ix3 (0 : Fin 1) p r) : EReal)
      = riseSum (fun s => (knotWord (F := Ideal) s : EReal)) (knotWord (F := Ideal) 1 : EReal) (Ideal.ofBits .f32 0x33D6BF95#32)
          (A (wordIx (r.castLE (by decide)))) ((A (wordIx ((r.natAdd 4).castLE (by decide))) : EReal) - A (wordIx (r.castLE (by decide)))) (xr (ix2 r p))
          (onePassNoise (Ideal.ofBits .f32 0x3DCCCCCD#32) (A (wordIx 8)) (A (wordIx 9)) (Ideal.ofBits .f32 0x49742400#32) (er (ix2 r p)))
          (fun s => (yp (ix2 r (Fin.ofNat 20 s)) : EReal)) 19 := by
  have h23 : k0_pay23 (A (wordIx 0)) (A (wordIx 1)) (A (wordIx 2)) (A (wordIx 3)) (ix2 r (0 : Fin 1)) = A (wordIx (r.castLE (by decide))) :=
    column_apply (fun q => A (wordIx (q.castLE (by decide)))) r
  have h4 : k0_pay23 (A (wordIx 4)) (A (wordIx 5)) (A (wordIx 6)) (A (wordIx 7)) (ix2 r (0 : Fin 1)) = A (wordIx ((r.natAdd 4).castLE (by decide))) :=
    column_apply (fun q => A (wordIx ((q.natAdd 4).castLE (by decide)))) r
  have h24 : (k0_pay24 (A (wordIx 0)) (A (wordIx 1)) (A (wordIx 2)) (A (wordIx 3)) (A (wordIx 4)) (A (wordIx 5)) (A (wordIx 6)) (A (wordIx 7)) (ix2 r (0 : Fin 1)) : EReal)
      = (A (wordIx ((r.natAdd 4).castLE (by decide))) : EReal) - A (wordIx (r.castLE (by decide))) := by
    rw [← h23, ← h4]; rfl
  rw [curveOf_rows, shapeCast_ab_1ab_apply, transpose_ix2_apply]
  rw [rowsAfter_apply (noise := onePassNoise (Ideal.ofBits .f32 0x3DCCCCCD#32) (A (wordIx 8)) (A (wordIx 9)) (Ideal.ofBits .f32 0x49742400#32) (er (ix2 r p)))]
  · rw [h23, h24]
    congr 1
    show shapeCast S4x2000 (shapeCast S1x4x2000 xr _) _ (ix2 r p) = _
    rw [shapeCast_1ab_ab_apply, shapeCast_ab_1ab_apply]
  · show Ideal.div (Ideal.ofBits .f32 0x3F800000#32) _ = _
    rw [word_one]; rfl
  · show (broadcastTo S4x2000 _ _ (ix2 r p) : EReal) + (_ + _ * _) = _
    rw [colBroadcast_apply, shapeCast_self]
    show (yp (ix2 r 0) : EReal) + (_ + _ * shapeCast S4x2000 (shapeCast S1x4x2000 er _) _ (ix2 r p)) = _
    rw [shapeCast_1ab_ab_apply, shapeCast_ab_1ab_apply]
    have h1 : (Scalar.subf (Scalar.ofBits .f32 0x49742400#32) (Scalar.ofBits .f32 0x3F800000#32) : Ideal .f32)
        = (Ideal.ofBits .f32 0x49742400#32 : EReal) - 1 := by
      show (Ideal.ofBits .f32 0x49742400#32 : EReal) - Ideal.ofBits .f32 0x3F800000#32 = _
      rw [word_one]; rfl
    have h2 : (k0_pay20 (A (wordIx 8)) (A (wordIx 9)) : EReal) = onePassStd (A (wordIx 8)) (A (wordIx 9)) (Ideal.ofBits .f32 0x49742400#32) := by
      unfold onePassStd
      rw [← h1]; rfl
    unfold onePassNoise
    rw [← h2, ← word_zero]
    rfl

end Cert.KernelIdeal.Hand

end
-- ==== Proof.V.Entry.lean ====
/-
  The kernel's result at a position, over the reals.
-/
module

public import proofs.«01_k».proof.Proof.V.Out
public import proofs.«01_k».proof.Proof.V.Words
public import proofs.«01_k».proof.Proof.V.Curve
public import proofs.«01_k».proof.Proof.V.Stream

@[expose] public section

set_option maxRecDepth 16384

noncomputable section

namespace Cert.Curve

open scoped BigOperators

/-- The sum depends on the knots before `n` and the heights up to `n`. -/
theorem riseSum_congr {k k' : ℕ → EReal} {w w' ε ε' mn mn' d d' x x' noise noise' : EReal} {Y Y' : ℕ → EReal} (n : ℕ)
    (hk : ∀ s, s < n → k s = k' s) (hw : w = w') (hε : ε = ε') (hmn : mn = mn') (hd : d = d') (hx : x = x') (hn : noise = noise')
    (hY : ∀ s, s ≤ n → Y s = Y' s) : riseSum k w ε mn d x noise Y n = riseSum k' w' ε' mn' d' x' noise' Y' n := by
  subst hw hε hmn hd hx hn
  induction n with
  | zero => exact congrArg (fun y : EReal => y + noise) (hY 0 (le_refl 0))
  | succ n ih =>
    show riseSum k w ε mn d x noise Y n + rise (k n) w ε mn d x (Y n) (Y (n + 1)) = riseSum k' w ε mn d x noise Y' n + rise (k' n) w ε mn d x (Y' n) (Y' (n + 1))
    rw [ih (fun s hs => hk s (Nat.lt_succ_of_lt hs)) (fun s hs => hY s (Nat.le_succ_of_le hs)), hk n (Nat.lt_succ_self n), hY n (Nat.le_succ n), hY (n + 1) (le_refl _)]

end Cert.Curve

namespace Cert.KernelIdeal.Hand

open Cert.KernelIdeal Cert.KernelIdeal.Gen Cert.Curve
open Idealize.ShloMosaic hiding eq_ix1 eq_ix2 eq_ix3 ix1 ix2 ix3 ix4 addf_apply mulf_apply subf_apply divf_apply maximumf_apply minimumf_apply
open ValueIdx
open Idealize.ShloMosaic.TcCoe
open scoped BigOperators

variable (m : (ℓ : Loc nD τ sig) → Buf (Elt Ideal) ℓ) (c : Dev nD)

/-- The chunk of a position. -/
def chunkOf (k : Fin 250000) : Fin 125 := ⟨k.val / 2000, by have := k.isLt; omega⟩
/-- The place of a position in its chunk. -/
def placeOf (k : Fin 250000) : Fin 2000 := ⟨k.val % 2000, by omega⟩
/-- The position of a place in a chunk. -/
def positionOf (i : Fin 125) (p : Fin 2000) : Fin 250000 := ⟨2000 * i.val + p.val, by have := i.isLt; have := p.isLt; omega⟩

theorem position_split (k : Fin 250000) : k.val = 2000 * (chunkOf k).val + (placeOf k).val := (Nat.div_add_mod k.val 2000).symm

/-- A sum over chunks, rows and places is the sum over positions and rows. -/
theorem sum_chunks (f : Fin 125 → S4x2000.Idx → EReal) (g : S250000x4.Idx → EReal)
    (h : ∀ i r p, f i (ix2 r p) = g (ix2 (positionOf i p) r)) : ∑ i, ∑ q, f i q = ∑ j, g j := by
  rw [ValueIdx.sum_idx2 (n0 := 250000) (n1 := 4) g]
  have e : ∑ k : Fin 250000, ∑ r : Fin 4, g (ix2 k r) = ∑ ip : Fin 125 × Fin 2000, ∑ r : Fin 4, g (ix2 (positionOf ip.1 ip.2) r) := by
    refine (Fintype.sum_equiv (finProdFinEquiv : Fin 125 × Fin 2000 ≃ Fin (125 * 2000)) _ (fun k : Fin 250000 => ∑ r : Fin 4, g (ix2 k r)) fun ip => ?_).symm
    refine Finset.sum_congr rfl fun r _ => congrArg (fun k : Fin 250000 => g (ix2 k r)) (Fin.ext ?_)
    show 2000 * ip.1.val + ip.2.val = ip.2.val + 2000 * ip.1.val
    omega
  rw [e, Fintype.sum_prod_type]
  refine Finset.sum_congr rfl fun i _ => ?_
  rw [ValueIdx.sum_idx2 (n0 := 4) (n1 := 2000), Finset.sum_comm]
  exact Finset.sum_congr rfl fun p _ => Finset.sum_congr rfl fun r _ => h i r p

/-- The least word bounds its row's stream. -/
theorem le_least_word (r : Fin 4) (y : EReal) : y ≤ (wordsAt m c 125 (wordIx (r.castLE (by decide))) : EReal) ↔ ∀ k, y ≤ xAt m c r k := by
  refine (le_words m c 124 (by decide) r y).trans ⟨fun h k => ?_, fun h i _ p => ?_⟩
  · rw [← xRowAt_eq m c (chunkOf k) r (placeOf k) k (position_split k)]
    exact h _ (by have := (chunkOf k).isLt; omega) _
  · rw [xRowAt_eq m c i r p (positionOf i p) rfl]
    exact h _

/-- The greatest word bounds its row's stream. -/
theorem greatest_word_le (r : Fin 4) (y : EReal) : (wordsAt m c 125 (wordIx ((r.natAdd 4).castLE (by decide))) : EReal) ≤ y ↔ ∀ k, xAt m c r k ≤ y := by
  refine (words_le m c 124 (by decide) r y).trans ⟨fun h k => ?_, fun h i _ p => ?_⟩
  · rw [← xRowAt_eq m c (chunkOf k) r (placeOf k) k (position_split k)]
    exact h _ (by have := (chunkOf k).isLt; omega) _
  · rw [xRowAt_eq m c i r p (positionOf i p) rfl]
    exact h _

theorem sum_word (g : S250000x4.Idx → EReal) (h : ∀ k r, eAt m c r k = g (ix2 k r)) : (wordsAt m c 125 (wordIx 8) : EReal) = ∑ j, g j :=
  (words_sum m c).trans (sum_chunks (fun i q => (eRowAt m c i q : EReal)) g fun i r p => (eRowAt_eq m c i r p (positionOf i p) rfl).trans (h _ _))

theorem squares_word (g : S250000x4.Idx → EReal) (h : ∀ k r, eAt m c r k = g (ix2 k r)) : (wordsAt m c 125 (wordIx 9) : EReal) = ∑ j, g j * g j :=
  (words_squares m c).trans (sum_chunks (fun i q => (eRowAt m c i q : EReal) * (eRowAt m c i q : EReal)) (fun j => g j * g j) fun i r p => by
    have e := (eRowAt_eq m c i r p (positionOf i p) rfl).trans (h _ _)
    rw [e])

/-- The kernel's result at a position, given the words and the heights as reals. -/
theorem result_real (k : Fin 250000) (r : Fin 4) (ε : ℝ) (hε : Ideal.ofBits .f32 0x33D6BF95#32 = (ε : EReal)) (hp : 0 < ε)
    (mn mx x e S S2 cw N : ℝ) (Y : ℕ → ℝ)
    (hmn : (wordsAt m c 125 (wordIx (r.castLE (by decide))) : EReal) = (mn : EReal))
    (hmx : (wordsAt m c 125 (wordIx ((r.natAdd 4).castLE (by decide))) : EReal) = (mx : EReal)) (hlt : mn < mx)
    (hx : xAt m c r k = (x : EReal)) (he : eAt m c r k = (e : EReal))
    (hS : (wordsAt m c 125 (wordIx 8) : EReal) = (S : EReal)) (hS2 : (wordsAt m c 125 (wordIx 9) : EReal) = (S2 : EReal))
    (hc : Ideal.ofBits .f32 0x3DCCCCCD#32 = (cw : EReal)) (hN : Ideal.ofBits .f32 0x49742400#32 = (N : EReal))
    (hY : ∀ s : Fin 20, (V m c main_v16 (ix2 r s) : EReal) = (Y s.val : EReal)) :
    (result m c (ix2 k r) : EReal)
      = ((Y 0 + ∑ s ∈ Finset.range 19, riseR s ε mn (mx - mn) x Y : ℝ) : EReal) + onePassNoise (cw : EReal) (S : EReal) (S2 : EReal) (N : EReal) (e : EReal) := by
  have hi : (⟨(writePt (chunkOf k)).val % 125, Nat.mod_lt _ (by decide)⟩ : Fin 125) = chunkOf k :=
    Fin.ext (by have := (chunkOf k).isLt; show (125 + (chunkOf k).val) % 125 = (chunkOf k).val; omega)
  rw [result_apply m c (chunkOf k) (placeOf k) r k (position_split k)]
  unfold blockAt
  rw [hi, iblk_10]
  refine (curveOf_apply (wordsAt m c 125) (xRowAt m c (chunkOf k)) (eRowAt m c (chunkOf k)) (V m c main_v16) r (placeOf k)).trans ?_
  have hw : (knotWord (F := Ideal) 1 : EReal) = ((1 / 19 : ℝ) : EReal) := (knotWord_eq 1 (by decide)).trans (by norm_num)
  have hx' : (xRowAt m c (chunkOf k) (ix2 r (placeOf k)) : EReal) = (x : EReal) := (xRowAt_eq m c _ r _ k (position_split k)).trans hx
  have he' : (eRowAt m c (chunkOf k) (ix2 r (placeOf k)) : EReal) = (e : EReal) := (eRowAt_eq m c _ r _ k (position_split k)).trans he
  refine (riseSum_congr 19 (fun s hs => knotWord_eq s hs) hw hε hmn
    ((congrArg₂ (fun a b : EReal => a - b) hmx hmn).trans (EReal.coe_sub _ _).symm) hx' ?_ (Y' := fun s => (Y s : EReal)) (fun s hs => ?_)).trans
    (riseSum_real ε mn (mx - mn) x hp (sub_pos.2 hlt) _ Y 19)
  · rw [hc, hS, hS2, hN, he']
  · have h := hY (Fin.ofNat 20 s)
    rwa [show (Fin.ofNat 20 s).val = s from Nat.mod_eq_of_lt (by omega)] at h

end Cert.KernelIdeal.Hand

end
-- ==== Proof.V.RefCurve.lean ====
/-
  The reference's curve: the knots, the segment a position lies in, and the segment formula there.
-/
module

public import proofs.«01_k».proof.Proof.V.RefStream
public import Idealize.ShloMosaic.Lib.ValueLayout

@[expose] public section

set_option maxRecDepth 16384

noncomputable section

namespace Cert.Curve

open Idealize.ShloMosaic
open scoped BigOperators

/-- The segment of a position `u` in [0, 1]: one less than the number of knots below it, and the first at 0. -/
def segment (u : ℝ) : ℕ := ⌈19 * u⌉₊ - 1

theorem knots_below (u : ℝ) (h1 : u ≤ 1) : (Finset.univ.filter fun s : Fin 20 => ((s.val / 19 : ℝ) : EReal) < (u : EReal)).card = ⌈19 * u⌉₊ := by
  have hc : ⌈19 * u⌉₊ < 20 := Nat.lt_succ_of_le (Nat.ceil_le.2 (by push_cast; linarith))
  have hs : (Finset.univ.filter fun s : Fin 20 => ((s.val / 19 : ℝ) : EReal) < (u : EReal)) = Finset.univ.filter fun s : Fin 20 => s.val < ⌈19 * u⌉₊ := by
    refine Finset.filter_congr fun s _ => ?_
    rw [EReal.coe_lt_coe_iff, Nat.lt_ceil, div_lt_iff₀ (by norm_num)]
    constructor <;> intro h <;> linarith
  have hk : ∀ c : Fin 20, (Finset.univ.filter fun s : Fin 20 => s.val < c.val).card = c.val := by decide
  rw [hs]
  exact hk ⟨_, hc⟩

theorem segment_lt (u : ℝ) (h1 : u ≤ 1) : segment u < 19 := by
  have hc : ⌈19 * u⌉₊ ≤ 19 := Nat.ceil_le.2 (by push_cast; linarith)
  unfold segment; omega

theorem segment_le (u : ℝ) (h0 : 0 ≤ u) : (segment u : ℝ) / 19 ≤ u := by
  rw [div_le_iff₀ (by norm_num)]
  unfold segment
  rcases Nat.eq_zero_or_pos ⌈19 * u⌉₊ with h | h
  · rw [h]; simpa using h0
  · have : ((⌈19 * u⌉₊ - 1 : ℕ) : ℝ) < 19 * u := Nat.lt_ceil.1 (by omega)
    linarith

theorem le_segment (u : ℝ) : u ≤ ((segment u : ℝ) + 1) / 19 := by
  rw [le_div_iff₀ (by norm_num)]
  have h := Nat.le_ceil (19 * u)
  have h' : (⌈19 * u⌉₊ : ℝ) ≤ (segment u : ℝ) + 1 := by
    have : ⌈19 * u⌉₊ ≤ segment u + 1 := by unfold segment; omega
    exact_mod_cast this
  linarith

/-- Counting by adding words of one bit each. -/
theorem fold_count {ι : Type} (s : Finset ι) (p : ι → Prop) [DecidablePred p] :
    s.fold (IntOp.addi (w := 32)) 0#32 (fun i => (BitVec.ofBool (decide (p i))).setWidth 32) = BitVec.ofNat 32 (s.filter p).card := by
  classical
  induction s using Finset.induction_on with
  | empty => rfl
  | insert a s ha ih =>
    rw [Finset.fold_insert ha, ih, Finset.filter_insert]
    by_cases h : p a
    · rw [if_pos h, Finset.card_insert_of_notMem (fun h' => ha (Finset.mem_filter.1 h').1), decide_eq_true h]
      show 1#32 + BitVec.ofNat 32 _ = _
      rw [BitVec.add_comm, BitVec.ofNat_add]
    · rw [if_neg h, decide_eq_false h]
      show 0#32 + BitVec.ofNat 32 _ = _
      rw [BitVec.zero_add]

/-- The clipped segment word. -/
theorem segment_word : ∀ c : Fin 20, IntOp.minsi 18#32 (IntOp.maxsi 0#32 (IntOp.subi (BitVec.ofNat 32 c.val) 1#32)) = BitVec.ofNat 32 (c.val - 1) := by decide

/-- Which of the nineteen segments a word picks. -/
theorem segment_flag : ∀ j s : Fin 19, IntOp.cmpi .eq (BitVec.ofNat 32 j.val) (BitVec.ofNat 32 s.val) = BitVec.ofBool (decide (s = j)) := by decide

/-- A sum of selected entries is the one selected. -/
theorem sum_selected (j : Fin 19) (f : Fin 19 → EReal) : (0 : EReal) + ∑ s, Scalar.select (BitVec.ofBool (decide (s = j))) (f s) 0 = f j := by
  rw [zero_add, Finset.sum_eq_single j]
  · rw [decide_eq_true rfl]; rfl
  · intro s _ h; rw [decide_eq_false h]; rfl
  · intro h; exact absurd (Finset.mem_univ _) h

end Cert.Curve

namespace Cert.ReferenceIdeal.Hand

open Cert.ReferenceIdeal Cert.ReferenceIdeal.Gen Cert.ReferenceIdeal.Read Cert.Curve
open Idealize.ShloMosaic hiding eq_ix1 eq_ix2 eq_ix3 ix1 ix2 ix3 ix4 addf_apply mulf_apply subf_apply divf_apply maximumf_apply minimumf_apply
open ValueIdx

/-- The knots' parts: the first nineteen, and the last. -/
def knotParts : List ((s : Shape) × (s.Idx → Ideal .f32)) :=
  [⟨S19, val_main_call2_v15 (F := Ideal)⟩, ⟨S1, val_main_call2_v16 (F := Ideal)⟩]

theorem early_knot (s : Fin 19) : (val_main_call2_v15 (F := Ideal) (ix1 s) : EReal) = ((s.val / 19 : ℝ) : EReal) := by
  have h4 : (val_main_call2_v4 (F := Ideal) (ix1 s) : EReal) = ((s.val : ℝ) : EReal) := by
    have hs : ∀ s : Fin 19, (BitVec.ofNat 32 s.val).toInt = (s.val : ℤ) := by decide
    show ((((BitVec.ofNat 32 s.val).toInt : ℝ)) : EReal) = _
    rw [hs]; norm_num
  have h6 : (val_main_call2_v6 (F := Ideal) (ix1 s) : EReal) = ((s.val / 19 : ℝ) : EReal) :=
    (congrArg₂ Ideal.div h4 ((val_main_call2_v5_apply (F := Ideal) (ix1 s)).trans word_nineteen)).trans (div_real _ _ (by norm_num))
  have h9 : (val_main_call2_v9 (F := Ideal) (ix1 s) : EReal) = ((1 - s.val / 19 : ℝ) : EReal) :=
    (congrArg₂ (fun a b : EReal => a - b) ((val_main_call2_v8_apply (F := Ideal) (ix1 s)).trans word_one) h6).trans (EReal.coe_sub _ _).symm
  have h10 : (val_main_call2_v10 (F := Ideal) (ix1 s) : EReal) = ((0 : ℝ) : EReal) := by
    rw [val_main_call2_v10_apply]
    exact (shapeCast_apply (val_main_call2_v0 (F := Ideal)) shapeCasts_S_S1 _ (Shape.Idx.first h_S_) (by rfl)).trans word_zero
  have h13 : (val_main_call2_v13 (F := Ideal) (ix1 s) : EReal) = ((1 : ℝ) : EReal) := by
    rw [val_main_call2_v13_apply]
    exact (shapeCast_apply (val_main_call2_v1 (F := Ideal)) shapeCasts_S_S1 _ (Shape.Idx.first h_S_) (by rfl)).trans word_one
  have h11 : (val_main_call2_v11 (F := Ideal) (ix1 s) : EReal) = ((0 * (1 - s.val / 19) : ℝ) : EReal) :=
    (congrArg₂ (fun a b : EReal => a * b) h10 h9).trans (EReal.coe_mul _ _).symm
  have h14 : (val_main_call2_v14 (F := Ideal) (ix1 s) : EReal) = ((1 * (s.val / 19) : ℝ) : EReal) :=
    (congrArg₂ (fun a b : EReal => a * b) h13 h6).trans (EReal.coe_mul _ _).symm
  refine (congrArg₂ (fun a b : EReal => a + b) h11 h14).trans ((EReal.coe_add _ _).symm.trans ?_)
  rw [zero_mul, zero_add, one_mul]

/-- Knot `s` lies at `s / 19` in every row. -/
theorem knot_apply (r : Fin 4) (s : Fin 20) : (val_main_v19 (F := Ideal) (ix2 r s) : EReal) = ((s.val / 19 : ℝ) : EReal) := by
  have h17 : (val_main_v19 (F := Ideal) (ix2 r s) : EReal) = concatenate S20 0 knotParts concatenates_S19_S1_S20_d0 (ix1 s) := by
    rw [val_main_v19_apply, val_main_v18_apply]
    exact congrArg (val_main_v17 (F := Ideal)) (funext fun a => match a with | ⟨0, _⟩ => rfl)
  rw [h17]
  by_cases h : s.val < 19
  · refine (concatenate_apply_piece (t := S20) (0 : Fin 1) knotParts concatenates_S19_S1_S20_d0 (ix1 s) 0 (by decide) S19 (val_main_call2_v15 (F := Ideal)) rfl rfl 0 rfl
      (ix1 (⟨s.val, h⟩ : Fin 19)) (fun b hb => match b with | ⟨0, _⟩ => absurd rfl hb) (by show 0 + s.val = s.val; omega)).trans ?_
    exact early_knot ⟨s.val, h⟩
  · have hs : s.val = 19 := by omega
    refine (concatenate_apply_piece (t := S20) (0 : Fin 1) knotParts concatenates_S19_S1_S20_d0 (ix1 s) 1 (by decide) S1 (val_main_call2_v16 (F := Ideal)) rfl rfl 19 rfl
      (ix1 (0 : Fin 1)) (fun b hb => match b with | ⟨0, _⟩ => absurd rfl hb) (by show 19 + 0 = s.val; omega)).trans ?_
    refine ((val_main_call2_v16_apply (F := Ideal) _).trans word_one).trans ?_
    rw [hs]; norm_num

section Curve

variable (z0 : Vec Ideal S4x8 .f32) (u1 : Vec Ideal S8x8 .f32) (c1 : Vec Ideal S8 .f32) (u2 : Vec Ideal S8x20 .f32) (c2 : Vec Ideal S20 .f32) (dirs : IVec S4 32)
variable (z : Vec Ideal S4x250000x8 .f32) (w1 : Vec Ideal S8x8 .f32) (b : Vec Ideal S8 .f32) (w : Vec Ideal S8x1 .f32) (b' : Vec Ideal S1 .f32)
variable (k : Fin 250000) (r : Fin 4) (u : ℝ) (hu : (val_main_v39 (F := Ideal) z w1 b w b' (ix2 k r) : EReal) = (u : EReal)) (h0 : 0 ≤ u) (h1 : u ≤ 1)

include hu

theorem below_apply (s : Fin 20) : val_main_v64 (F := Ideal) z w1 b w b' (ix3 k r s)
    = (BitVec.ofBool (decide (((s.val / 19 : ℝ) : EReal) < (u : EReal)))).setWidth 32 := by
  have h61 : (val_main_v61 (F := Ideal) (ix3 k r s) : EReal) = ((s.val / 19 : ℝ) : EReal) := by
    rw [val_main_v61_apply, val_main_v59_apply, ← knot_apply r s]
    exact congrArg (val_main_v19 (F := Ideal)) (funext fun a => match a with | ⟨0, _⟩ => rfl | ⟨1, _⟩ => rfl)
  have h62 : (val_main_v62 (F := Ideal) z w1 b w b' (ix3 k r s) : EReal) = (u : EReal) := by
    rw [val_main_v62_apply, val_main_v60_apply, ← hu]
    exact congrArg (val_main_v39 (F := Ideal) z w1 b w b') (funext fun a => match a with | ⟨0, _⟩ => rfl | ⟨1, _⟩ => rfl)
  rw [val_main_v64_apply, val_main_v63_apply, Ideal.cmpf_def]
  exact congrArg (fun c : BitVec 1 => c.setWidth 32) (congrArg₂ (Ideal.cmp .olt) h61 h62)

include h1

theorem segment_apply : val_main_v68 (F := Ideal) z w1 b w b' (ix2 k r) = BitVec.ofNat 32 (segment u) := by
  have h : S250000x4x20.Reduces [2] S250000x4 := by decide
  have e := Host.reduce_eq_fold_single (IntOp.addi (w := 32)) (val_main_v64 (F := Ideal) z w1 b w b') (val_main_c_6 (F := Ideal))
    reducesTo_S250000x4x20_S250000x4_d2 h h_S_ (ix2 k r)
  have h65 : val_main_v65 (F := Ideal) z w1 b w b' (ix2 k r) = BitVec.ofNat 32 ⌈19 * u⌉₊ := by
    rw [← knots_below u h1, ← fold_count]
    refine e.trans (congrArg (fun f : Fin 20 → BitVec 32 => (Finset.univ : Finset (Fin 20)).fold (IntOp.addi (w := 32)) 0#32 f) (funext fun s => ?_))
    rw [← below_apply z w1 b w b' k r u hu s]
    exact congrArg (val_main_v64 (F := Ideal) z w1 b w b') (funext fun a => Fin.ext (match a with | ⟨0, _⟩ => rfl | ⟨1, _⟩ => rfl | ⟨2, _⟩ => rfl))
  have hc : ⌈19 * u⌉₊ < 20 := Nat.lt_succ_of_le (Nat.ceil_le.2 (by push_cast; linarith))
  rw [val_main_v68_apply, val_main_call4_v2_apply, val_main_v67_apply, h65]
  exact segment_word ⟨_, hc⟩

theorem flag_apply (s : Fin 19) : val_main_v74 (F := Ideal) z w1 b w b' (ix3 k r s) = BitVec.ofBool (decide (s = ⟨segment u, segment_lt u h1⟩)) := by
  have h72 : val_main_v72 (F := Ideal) z w1 b w b' (ix3 k r s) = BitVec.ofNat 32 (segment u) := by
    rw [val_main_v72_apply, val_main_v69_apply, ← segment_apply z w1 b w b' k r u hu h1]
    exact congrArg (val_main_v68 (F := Ideal) z w1 b w b') (funext fun a => match a with | ⟨0, _⟩ => rfl | ⟨1, _⟩ => rfl)
  rw [val_main_v74_apply, h72]
  exact segment_flag ⟨segment u, segment_lt u h1⟩ s

/-- A sum of entries selected by the segment's flags. -/
theorem picked (f : Fin 19 → EReal) (x : Fin 19 → EReal) (o : EReal) (ho : o = 0)
    (hx : ∀ s, x s = Scalar.select (val_main_v74 (F := Ideal) z w1 b w b' (ix3 k r s)) (f s) o) (i : EReal) (hi : i = 0) :
    i + ∑ s, x s = f ⟨segment u, segment_lt u h1⟩ := by
  rw [hi, ← sum_selected ⟨segment u, segment_lt u h1⟩ f]
  refine congrArg (fun y : EReal => 0 + y) (Finset.sum_congr rfl fun s _ => ?_)
  rw [hx, flag_apply z w1 b w b' k r u hu h1 s, ho]

theorem start_x : (val_main_v78 (F := Ideal) z w1 b w b' (ix2 k r) : EReal) = (((segment u : ℝ) / 19 : ℝ) : EReal) := by
  have hw : (val_main_cst_11 (F := Ideal) (Shape.Idx.first h_S_) : EReal) = 0 := word_zero
  refine (val_main_v78_apply z w1 b w b' (ix2 k r)).trans ?_
  refine picked z w1 b w b' k r u hu h1 (fun s => ((s.val / 19 : ℝ) : EReal)) (fun s => val_main_v77 (F := Ideal) z w1 b w b' (idx_main_v78 (ix2 k r) s))
    (Ideal.ofBits .f32 0x00000000#32) word_zero (fun s => ?_) _ hw
  have e : idx_main_v78 (ix2 k r) s = ix3 k r s := funext fun a => match a with | ⟨0, _⟩ => rfl | ⟨1, _⟩ => rfl | ⟨2, _⟩ => rfl
  rw [e, val_main_v77_apply]
  refine congrArg₂ (fun a o : EReal => Scalar.select (val_main_v74 (F := Ideal) z w1 b w b' (ix3 k r s)) a o) ?_ (val_main_call5_v1_apply (F := Ideal) (ix3 k r s))
  have e2 : idx_main_v75 (idx_main_v76 (idx_main_call5_v0 (ix3 k r s))) = ix2 r (⟨s.val, by omega⟩ : Fin 20) := funext fun a => match a with
    | ⟨0, _⟩ => rfl
    | ⟨1, _⟩ => rfl
  rw [val_main_call5_v0_apply, val_main_v76_apply, val_main_v75_apply, e2]
  exact knot_apply r ⟨s.val, by omega⟩

theorem end_x : (val_main_v82 (F := Ideal) z w1 b w b' (ix2 k r) : EReal) = ((((segment u : ℝ) + 1) / 19 : ℝ) : EReal) := by
  have hw : (val_main_cst_13 (F := Ideal) (Shape.Idx.first h_S_) : EReal) = 0 := word_zero
  refine (val_main_v82_apply z w1 b w b' (ix2 k r)).trans ?_
  refine picked z w1 b w b' k r u hu h1 (fun s => (((s.val + 1) / 19 : ℝ) : EReal)) (fun s => val_main_v81 (F := Ideal) z w1 b w b' (idx_main_v82 (ix2 k r) s))
    (Ideal.ofBits .f32 0x00000000#32) word_zero (fun s => ?_) _ hw
  have e : idx_main_v82 (ix2 k r) s = ix3 k r s := funext fun a => match a with | ⟨0, _⟩ => rfl | ⟨1, _⟩ => rfl | ⟨2, _⟩ => rfl
  rw [e, val_main_v81_apply]
  refine congrArg₂ (fun a o : EReal => Scalar.select (val_main_v74 (F := Ideal) z w1 b w b' (ix3 k r s)) a o) ?_ (val_main_call6_v1_apply (F := Ideal) (ix3 k r s))
  have e2 : idx_main_v79 (idx_main_v80 (idx_main_call6_v0 (ix3 k r s))) = ix2 r (⟨s.val + 1, by omega⟩ : Fin 20) := funext fun a => match a with
    | ⟨0, _⟩ => rfl
    | ⟨1, _⟩ => Fin.ext (by show 1 + s.val = s.val + 1; omega)
  rw [val_main_call6_v0_apply, val_main_v80_apply, val_main_v79_apply, e2]
  refine (knot_apply r ⟨s.val + 1, by omega⟩).trans ?_
  show (((s.val + 1 : ℕ) / 19 : ℝ) : EReal) = _
  push_cast; rfl

variable (Y : ℕ → ℝ) (hY : ∀ s : Fin 20, (val_main_v16 (F := Ideal) z0 u1 c1 u2 c2 dirs (ix2 r s) : EReal) = (Y s.val : EReal))

include hY

theorem start_y : (val_main_v86 (F := Ideal) z0 z u1 c1 u2 c2 w1 b w b' dirs (ix2 k r) : EReal) = (Y (segment u) : EReal) := by
  have hw : (val_main_cst_15 (F := Ideal) (Shape.Idx.first h_S_) : EReal) = 0 := word_zero
  refine (val_main_v86_apply z0 z u1 c1 u2 c2 w1 b w b' dirs (ix2 k r)).trans ?_
  refine picked z w1 b w b' k r u hu h1 (fun s => (Y s.val : EReal)) (fun s => val_main_v85 (F := Ideal) z0 z u1 c1 u2 c2 w1 b w b' dirs (idx_main_v86 (ix2 k r) s))
    (Ideal.ofBits .f32 0x00000000#32) word_zero (fun s => ?_) _ hw
  have e : idx_main_v86 (ix2 k r) s = ix3 k r s := funext fun a => match a with | ⟨0, _⟩ => rfl | ⟨1, _⟩ => rfl | ⟨2, _⟩ => rfl
  rw [e, val_main_v85_apply]
  refine congrArg₂ (fun a o : EReal => Scalar.select (val_main_v74 (F := Ideal) z w1 b w b' (ix3 k r s)) a o) ?_ (val_main_call7_v1_apply (F := Ideal) (ix3 k r s))
  have e2 : idx_main_v83 (idx_main_v84 (idx_main_call7_v0 (ix3 k r s))) = ix2 r (⟨s.val, by omega⟩ : Fin 20) := funext fun a => match a with
    | ⟨0, _⟩ => rfl
    | ⟨1, _⟩ => rfl
  rw [val_main_call7_v0_apply, val_main_v84_apply, val_main_v83_apply, e2]
  exact hY ⟨s.val, by omega⟩

theorem end_y : (val_main_v90 (F := Ideal) z0 z u1 c1 u2 c2 w1 b w b' dirs (ix2 k r) : EReal) = (Y (segment u + 1) : EReal) := by
  have hw : (val_main_cst_17 (F := Ideal) (Shape.Idx.first h_S_) : EReal) = 0 := word_zero
  refine (val_main_v90_apply z0 z u1 c1 u2 c2 w1 b w b' dirs (ix2 k r)).trans ?_
  refine picked z w1 b w b' k r u hu h1 (fun s => (Y (s.val + 1) : EReal)) (fun s => val_main_v89 (F := Ideal) z0 z u1 c1 u2 c2 w1 b w b' dirs (idx_main_v90 (ix2 k r) s))
    (Ideal.ofBits .f32 0x00000000#32) word_zero (fun s => ?_) _ hw
  have e : idx_main_v90 (ix2 k r) s = ix3 k r s := funext fun a => match a with | ⟨0, _⟩ => rfl | ⟨1, _⟩ => rfl | ⟨2, _⟩ => rfl
  rw [e, val_main_v89_apply]
  refine congrArg₂ (fun a o : EReal => Scalar.select (val_main_v74 (F := Ideal) z w1 b w b' (ix3 k r s)) a o) ?_ (val_main_call8_v1_apply (F := Ideal) (ix3 k r s))
  have e2 : idx_main_v87 (idx_main_v88 (idx_main_call8_v0 (ix3 k r s))) = ix2 r (⟨s.val + 1, by omega⟩ : Fin 20) := funext fun a => match a with
    | ⟨0, _⟩ => rfl
    | ⟨1, _⟩ => Fin.ext (by show 1 + s.val = s.val + 1; omega)
  rw [val_main_call8_v0_apply, val_main_v88_apply, val_main_v87_apply, e2]
  exact hY ⟨s.val + 1, by omega⟩

/-- The reference's curve at a position: the segment formula from its knots. -/
theorem curve_apply (ε : ℝ) (hε : Ideal.ofBits .f32 0x33D6BF95#32 = (ε : EReal)) (hp : 0 < ε) : (val_main_v109 (F := Ideal) z0 z u1 c1 u2 c2 w1 b w b' dirs (ix2 k r) : EReal)
    = ((Y 0 + ((Y (segment u) - Y 0) * (1 / 19) / (1 / 19 + ε)
        + (u - segment u / 19) * (Y (segment u + 1) - Y (segment u)) / (1 / 19 + ε)) : ℝ) : EReal) := by
  have hx0 := start_x z w1 b w b' k r u hu h1
  have hy0 := start_y z0 u1 c1 u2 c2 dirs z w1 b w b' k r u hu h1 Y hY
  have h94 : (val_main_v95 (F := Ideal) z0 u1 c1 u2 c2 dirs (ix2 k r) : EReal) = (Y 0 : EReal) := by
    rw [val_main_v95_apply, val_main_v94_apply, val_main_v93_apply, val_main_v92_apply]
    have e : idx_main_v92 (idx_main_v93 (idx_main_v94 (idx_main_v95 (ix2 k r)))) = ix2 r (0 : Fin 20) := funext fun a => match a with
      | ⟨0, _⟩ => Fin.ext (by show r.val / 1 = r.val; omega)
      | ⟨1, _⟩ => rfl
    rw [e]
    exact hY 0
  have h91 : (val_main_v91 (F := Ideal) z w1 b w b' (ix2 k r) : EReal) = ((1 / 19 : ℝ) : EReal) := by
    refine (congrArg₂ (fun a b : EReal => a - b) (end_x z w1 b w b' k r u hu h1) hx0).trans ((EReal.coe_sub _ _).symm.trans ?_)
    exact congrArg (fun x : ℝ => (x : EReal)) (by ring)
  have h99 : (val_main_v99 (F := Ideal) z w1 b w b' (ix2 k r) : EReal) = ((1 / 19 + ε : ℝ) : EReal) :=
    (congrArg₂ (fun a b : EReal => a + b) h91 ((val_main_v98_apply (F := Ideal) (ix2 k r)).trans hε)).trans (EReal.coe_add _ _).symm
  have h96 : (val_main_v96 (F := Ideal) z0 z u1 c1 u2 c2 w1 b w b' dirs (ix2 k r) : EReal) = ((Y (segment u) - Y 0 : ℝ) : EReal) :=
    (congrArg₂ (fun a b : EReal => a - b) hy0 h94).trans (EReal.coe_sub _ _).symm
  have h97 : (val_main_v97 (F := Ideal) z0 z u1 c1 u2 c2 w1 b w b' dirs (ix2 k r) : EReal) = ((Y (segment u) - Y 0) * (1 / 19) : ℝ) :=
    (congrArg₂ (fun a b : EReal => a * b) h96 h91).trans (EReal.coe_mul _ _).symm
  have hne : (1 / 19 + ε : ℝ) ≠ 0 := by positivity
  have h100 : (val_main_v100 (F := Ideal) z0 z u1 c1 u2 c2 w1 b w b' dirs (ix2 k r) : EReal)
      = ((Y (segment u) - Y 0) * (1 / 19) / (1 / 19 + ε) : ℝ) :=
    by rw [val_main_v100_apply, h97, h99]; exact div_real ((Y (segment u) - Y 0) * (1 / 19)) (1 / 19 + ε) hne
  have h102 : (val_main_v102 (F := Ideal) z0 z u1 c1 u2 c2 w1 b w b' dirs (ix2 k r) : EReal)
      = (Y 0 + (Y (segment u) - Y 0) * (1 / 19) / (1 / 19 + ε) : ℝ) :=
    (congrArg₂ (fun a b : EReal => a + b) h94 h100).trans (EReal.coe_add _ _).symm
  have h103 : (val_main_v103 (F := Ideal) z w1 b w b' (ix2 k r) : EReal) = ((u - segment u / 19 : ℝ) : EReal) :=
    (congrArg₂ (fun a b : EReal => a - b) hu hx0).trans (EReal.coe_sub _ _).symm
  have h104 : (val_main_v104 (F := Ideal) z0 z u1 c1 u2 c2 w1 b w b' dirs (ix2 k r) : EReal) = ((Y (segment u + 1) - Y (segment u) : ℝ) : EReal) :=
    (congrArg₂ (fun a b : EReal => a - b) (end_y z0 u1 c1 u2 c2 dirs z w1 b w b' k r u hu h1 Y hY) hy0).trans (EReal.coe_sub _ _).symm
  have h105 : (val_main_v105 (F := Ideal) z0 z u1 c1 u2 c2 w1 b w b' dirs (ix2 k r) : EReal) = ((u - segment u / 19) * (Y (segment u + 1) - Y (segment u)) : ℝ) :=
    (congrArg₂ (fun a b : EReal => a * b) h103 h104).trans (EReal.coe_mul _ _).symm
  have h108 : (val_main_v108 (F := Ideal) z0 z u1 c1 u2 c2 w1 b w b' dirs (ix2 k r) : EReal)
      = ((u - segment u / 19) * (Y (segment u + 1) - Y (segment u)) / (1 / 19 + ε) : ℝ) :=
    by
    have h107 : (val_main_v107 (F := Ideal) z w1 b w b' (ix2 k r) : EReal) = ((1 / 19 + ε : ℝ) : EReal) := h99
    rw [val_main_v108_apply, h105, h107]; exact div_real ((u - segment u / 19) * (Y (segment u + 1) - Y (segment u))) (1 / 19 + ε) hne
  refine (congrArg₂ (fun a b : EReal => a + b) h102 h108).trans ((EReal.coe_add _ _).symm.trans ?_)
  rw [add_assoc]

end Curve

end Cert.ReferenceIdeal.Hand

end
-- ==== Proof.V.Final.lean ====
/-
  The kernel's result is the reference's, entry by entry, when every row of the x stream varies.
-/
module

public import proofs.«01_k».proof.Proof.V.Entry
public import proofs.«01_k».proof.Proof.V.RefCurve

@[expose] public section

set_option maxRecDepth 16384

noncomputable section

namespace Cert.ReferenceIdeal.Hand

open Cert.ReferenceIdeal Cert.ReferenceIdeal.Gen Cert.ReferenceIdeal.Read Cert.Curve
open Idealize.ShloMosaic hiding eq_ix1 eq_ix2 eq_ix3 ix1 ix2 ix3 ix4 addf_apply mulf_apply subf_apply divf_apply maximumf_apply minimumf_apply
open ValueIdx

/-- A sorted array's entry is an entry of the array. -/
theorem sort_entry (x : Vec Ideal S4x20 .f32) (i : S4x20.Idx) : ∃ j, Host.sort S4x20 1 (comparator_f32_d1 (F := Ideal)) x i = x j := ⟨_, rfl⟩

/-- The knots' heights are reals. -/
theorem height_isReal (z0 : Vec Ideal S4x8 .f32) (u1 : Vec Ideal S8x8 .f32) (c1 : Vec Ideal S8 .f32) (u2 : Vec Ideal S8x20 .f32) (c2 : Vec Ideal S20 .f32)
    (dirs : IVec S4 32) (i : S4x20.Idx) : ∃ y : ℝ, (val_main_v16 (F := Ideal) z0 u1 c1 u2 c2 dirs i : EReal) = (y : EReal) := by
  have h9 : ∀ j, ∃ y : ℝ, (val_main_v9 (F := Ideal) z0 u1 c1 u2 c2 j : EReal) = (y : EReal) := fun j => tanh_isReal _
  have h13 : ∀ j, ∃ y : ℝ, (val_main_v13 (F := Ideal) z0 u1 c1 u2 c2 j : EReal) = (y : EReal) := fun j => by
    obtain ⟨j', e⟩ := sort_entry (val_main_v9 (F := Ideal) z0 u1 c1 u2 c2) j
    obtain ⟨y, hy⟩ := h9 j'
    exact ⟨y, e.trans hy⟩
  have h15 : ∃ y : ℝ, (val_main_v15 (F := Ideal) z0 u1 c1 u2 c2 i : EReal) = (y : EReal) := h13 _
  show ∃ y : ℝ, (if val_main_call1_v0 (F := Ideal) dirs i = 1 then (val_main_v13 (F := Ideal) z0 u1 c1 u2 c2 i : EReal) else (val_main_v15 (F := Ideal) z0 u1 c1 u2 c2 i : EReal)) = (y : EReal)
  split
  · exact h13 i
  · exact h15

end Cert.ReferenceIdeal.Hand

namespace Cert.KernelIdeal.Hand

open Cert.KernelIdeal Cert.KernelIdeal.Gen Cert.Curve Cert.ReferenceIdeal.Read Cert.ReferenceIdeal.Hand
open Idealize.ShloMosaic hiding eq_ix1 eq_ix2 eq_ix3 ix1 ix2 ix3 ix4 addf_apply mulf_apply subf_apply divf_apply maximumf_apply minimumf_apply
open ValueIdx
open Idealize.ShloMosaic.TcCoe
open scoped BigOperators

variable (m : (ℓ : Loc nD τ sig) → Buf (Elt Ideal) ℓ) (c : Dev nD)

/-- The reference's result over the launch's arguments. -/
abbrev refResult : Vec Ideal S250000x4 .f32 :=
  val_main_v112 (F := Ideal) (argAt m c main_arg0) (argAt m c main_arg1) (argAt m c main_arg2) (argAt m c main_arg3) (argAt m c main_arg4) (argAt m c main_arg5)
    (argAt m c main_arg6) (argAt m c main_arg7) (argAt m c main_arg8) (argAt m c main_arg9) (argAt m c main_arg10) (argAt m c main_arg11) (argAt m c main_arg12)
    (argAt m c main_arg13) (argAt m c main_arg14) (argAt m c main_arg15)

/-- The curve's part, as the kernel sums it and as the reference reads it off its segment. -/
theorem curve_sum (ε mn mx x : ℝ) (hp : 0 < ε) (hlt : mn < mx) (h0 : mn ≤ x) (h1 : x ≤ mx) (Y : ℕ → ℝ) :
    Y 0 + ∑ s ∈ Finset.range 19, riseR s ε mn (mx - mn) x Y
      = Y 0 + ((Y (segment ((x - mn) / (mx - mn))) - Y 0) * (1 / 19) / (1 / 19 + ε)
        + ((x - mn) / (mx - mn) - segment ((x - mn) / (mx - mn)) / 19) * (Y (segment ((x - mn) / (mx - mn)) + 1) - Y (segment ((x - mn) / (mx - mn)))) / (1 / 19 + ε)) := by
  have hd : 0 < mx - mn := sub_pos.2 hlt
  have hu0 : 0 ≤ (x - mn) / (mx - mn) := div_nonneg (by linarith) hd.le
  have hu1 : (x - mn) / (mx - mn) ≤ 1 := (div_le_one hd).2 (by linarith)
  rw [sum_riseR (segment ((x - mn) / (mx - mn))) (segment_lt _ hu1) ε mn (mx - mn) x ((x - mn) / (mx - mn)) hp hd Y (div_mul_cancel₀ _ hd.ne').symm
    (segment_le _ hu0) (le_segment _)]

theorem entry_eq (k : Fin 250000) (r : Fin 4) (ε : ℝ) (hε : Ideal.ofBits .f32 0x33D6BF95#32 = (ε : EReal)) (hp : 0 < ε)
    (hvary : ∃ k k', xAt m c r k < xAt m c r k') : (result m c (ix2 k r) : EReal) = (refResult m c (ix2 k r) : EReal) := by
  -- the streams and the heights, as reals
  have hXr : ∀ k, ∃ y : ℝ, xAt m c r k = (y : EReal) := fun k => network_isReal _ _ _ _ _
  choose X hX using hXr
  have hEr : ∀ j : S250000x4.Idx, ∃ y : ℝ, (val_main_v51 (F := Ideal) (argAt m c main_arg2) (argAt m c main_arg11) (argAt m c main_arg12) (argAt m c main_arg13) (argAt m c main_arg14) j : EReal) = (y : EReal) :=
    fun j => tanh_isReal _
  choose E hE using hEr
  have hEk : ∀ k r, eAt m c r k = (E (ix2 k r) : EReal) := fun k r => by
    have e51 : idx_main_v51 (ix2 k r) = ix2 r k := funext fun a => match a with | ⟨0, _⟩ => rfl | ⟨1, _⟩ => rfl
    rw [← hE, val_main_v51_apply, e51, noise_stream, stream_apply]
    rfl
  have hYr : ∀ s : ℕ, ∃ y : ℝ, (V m c main_v16 (ix2 r (Fin.ofNat 20 s)) : EReal) = (y : EReal) := fun s => by
    rw [V_main_v16]
    exact height_isReal _ _ _ _ _ _ _
  choose Y hY using hYr
  have hYs : ∀ s : Fin 20, (V m c main_v16 (ix2 r s) : EReal) = (Y s.val : EReal) := fun s => by
    rw [← hY s.val, show Fin.ofNat 20 s.val = s from Fin.ext (Nat.mod_eq_of_lt s.isLt)]
  -- the row's bounds
  obtain ⟨ka, ha⟩ := Finite.exists_min X
  obtain ⟨kb, hb⟩ := Finite.exists_max X
  have hmn : ∀ y : EReal, y ≤ (X ka : EReal) ↔ ∀ k, y ≤ (X k : EReal) := fun y =>
    ⟨fun h k => h.trans (EReal.coe_le_coe_iff.2 (ha k)), fun h => h ka⟩
  have hmx : ∀ y : EReal, (X kb : EReal) ≤ y ↔ ∀ k, (X k : EReal) ≤ y := fun y =>
    ⟨fun h k => (EReal.coe_le_coe_iff.2 (hb k)).trans h, fun h => h kb⟩
  have hlt : X ka < X kb := by
    obtain ⟨k1, k2, h12⟩ := hvary
    rw [hX, hX, EReal.coe_lt_coe_iff] at h12
    exact ((ha k1).trans_lt h12).trans_le (hb k2)
  have hwmn : (wordsAt m c 125 (wordIx (r.castLE (by decide))) : EReal) = (X ka : EReal) := eq_of_forall_le_iff fun y => by
    rw [le_least_word, hmn]
    exact forall_congr' fun k => by rw [hX]
  have hwmx : (wordsAt m c 125 (wordIx ((r.natAdd 4).castLE (by decide))) : EReal) = (X kb : EReal) := eq_of_forall_ge_iff fun y => by
    rw [greatest_word_le, hmx]
    exact forall_congr' fun k => by rw [hX]
  -- the noise's sums
  have hS : (wordsAt m c 125 (wordIx 8) : EReal) = ((∑ j, E j : ℝ) : EReal) := (sum_word m c (fun j => (E j : EReal)) hEk).trans (sum_coe _ _)
  have hS2 : (wordsAt m c 125 (wordIx 9) : EReal) = ((∑ j, E j * E j : ℝ) : EReal) :=
    (squares_word m c (fun j => (E j : EReal)) hEk).trans ((Finset.sum_congr rfl fun j _ => (EReal.coe_mul _ _).symm).trans (sum_coe _ _))
  refine (result_real m c k r ε hε hp (X ka) (X kb) (X k) (E (ix2 k r)) _ _ _ _ Y hwmn hwmx hlt (hX k) (hEk k r) hS hS2 word_weight word_million hYs).trans ?_
  -- the reference's two parts
  have hXr : ∀ k, (val_main_v30 (F := Ideal) (argAt m c main_arg1) (argAt m c main_arg7) (argAt m c main_arg8) (argAt m c main_arg9) (argAt m c main_arg10) (ix2 r k) : EReal) = (X k : EReal) :=
    fun k => (stream_apply _ _ _ _ _ r k).trans (hX k)
  have hu := position_apply (argAt m c main_arg1) (argAt m c main_arg7) (argAt m c main_arg8) (argAt m c main_arg9) (argAt m c main_arg10) X r hXr (X ka) (X kb) hmn hmx hlt k
  have hd : 0 < X kb - X ka := sub_pos.2 hlt
  have hu1 : (X k - X ka) / (X kb - X ka) ≤ 1 := (div_le_one hd).2 (by linarith [hb k])
  have hcurve := curve_apply (argAt m c main_arg0) (argAt m c main_arg3) (argAt m c main_arg4) (argAt m c main_arg5) (argAt m c main_arg6) (argAt m c main_arg15)
    (argAt m c main_arg1) (argAt m c main_arg7) (argAt m c main_arg8) (argAt m c main_arg9) (argAt m c main_arg10) k r _ hu hu1 Y
    (fun s => (congrFun (V_main_v16 m c) (ix2 r s)).symm.trans (hYs s)) ε hε hp
  have hnoise := noise_apply (argAt m c main_arg2) (argAt m c main_arg11) (argAt m c main_arg12) (argAt m c main_arg13) (argAt m c main_arg14) E hE (ix2 k r)
  have hcard : (1000000 : ℝ) = (Fintype.card S250000x4.Idx : ℝ) := by
    rw [Fintype.card_congr (idxEquiv2 (n0 := 250000) (n1 := 4))]
    simp only [Fintype.card_prod, Fintype.card_fin]; norm_num
  have hkn := noise_eq E 1000000 (13421773 / 2 ^ 27) hcard (by norm_num) (by positivity) (ix2 k r)
  exact (congrArg₂ (fun a b : EReal => a + b)
    (hcurve.trans (congrArg (fun x : ℝ => (x : EReal)) (curve_sum ε (X ka) (X kb) (X k) hp hlt (ha k) (hb k) Y).symm)) (hnoise.trans hkn.symm)).symm

/-- When every row of the x stream varies, the kernel's result is the reference's. -/
theorem result_eq (hvary : ∀ r : Fin 4, ∃ k k', xAt m c r k < xAt m c r k') : result m c = refResult m c := by
  funext j
  have e : j = ix2 (j 0 : Fin 250000) (j 1 : Fin 4) := funext fun a => match a with | ⟨0, _⟩ => rfl | ⟨1, _⟩ => rfl
  rw [e]
  exact entry_eq m c _ _ _ word_guard (by positivity) (hvary _)

end Cert.KernelIdeal.Hand

end
-- ==== Proof.V.Post.lean ====
/-
  The postcondition read as the reference's own arrays: the curve through the knots' own heights, the noise and the distance.
-/
module

public import proofs.«01_k».proof.Post_near_reference
public import proofs.«01_k».proof.Proof.V.Final

@[expose] public section

set_option maxRecDepth 16384

noncomputable section

namespace Cert.ReferenceIdeal.Hand

open Cert.ReferenceIdeal Cert.ReferenceIdeal.Gen Cert.ReferenceIdeal.Read Cert.Curve
open Idealize.ShloMosaic hiding eq_ix1 eq_ix2 eq_ix3 ix1 ix2 ix3 ix4 addf_apply mulf_apply subf_apply divf_apply maximumf_apply minimumf_apply
open ValueIdx

/-- The relations the postcondition's operations state. -/
instance postFacts : Cert.Post_near_reference.Facts where
  bcast_S8_S1x8_1 := bcast_S8_S1x8_1
  bcast_S1x8_S4x8_0_1 := bcast_S1x8_S4x8_0_1
  bcast_S20_S1x20_1 := bcast_S20_S1x20_1
  bcast_S1x20_S4x20_0_1 := bcast_S1x20_S4x20_0_1
  bcast_S_S4 := bcast_S_S4
  bcast_S4_S4x1_0 := bcast_S4_S4x1_0
  bcast_S4x1_S4x20_0_1 := bcast_S4x1_S4x20_0_1
  bcast_S_S19 := bcast_S_S19
  shapeCasts_S_S1 := shapeCasts_S_S1
  bcast_S1_S19_0 := bcast_S1_S19_0
  bcast_S_S1 := bcast_S_S1
  concatenates_S19_S1_S20_d0 := concatenates_S19_S1_S20_d0
  bcast_S8_S1x1x8_2 := bcast_S8_S1x1x8_2
  bcast_S1x1x8_S4x250000x8_0_1_2 := bcast_S1x1x8_S4x250000x8_0_1_2
  bcast_S1_S1x1x1_2 := bcast_S1_S1x1x1_2
  bcast_S1x1x1_S4x250000x1_0_1_2 := bcast_S1x1x1_S4x250000x1_0_1_2
  shapeCasts_S4x250000x1_S4x250000 := shapeCasts_S4x250000x1_S4x250000
  reducesTo_S4x250000_S4_d1 := reducesTo_S4x250000_S4_d1
  h_S_ := h_S_
  bcast_S4x1_S4x250000_0_1 := bcast_S4x1_S4x250000_0_1
  transposes_S4x250000_S250000x4_1_0 := transposes_S4x250000_S250000x4_1_0
  reducesTo_S250000x4_S_d0_1 := reducesTo_S250000x4_S_d0_1
  bcast_S_S250000x4 := bcast_S_S250000x4
  bcast_S_S1x1 := bcast_S_S1x1
  bcast_S1x1_S250000x4_0_1 := bcast_S1x1_S250000x4_0_1
  bcast_S4x20_S1x4x20_1_2 := bcast_S4x20_S1x4x20_1_2
  bcast_S250000x4_S250000x4x1_0_1 := bcast_S250000x4_S250000x4x1_0_1
  bcast_S1x4x20_S250000x4x20_0_1_2 := bcast_S1x4x20_S250000x4x20_0_1_2
  bcast_S250000x4x1_S250000x4x20_0_1_2 := bcast_S250000x4x1_S250000x4x20_0_1_2
  natLt_1_32 := natLt_1_32
  reducesTo_S250000x4x20_S250000x4_d2 := reducesTo_S250000x4x20_S250000x4_d2
  bcast_S19_S1x1x19_2 := bcast_S19_S1x1x19_2
  bcast_S250000x4x1_S250000x4x19_0_1_2 := bcast_S250000x4x1_S250000x4x19_0_1_2
  bcast_S1x1x19_S250000x4x19_0_1_2 := bcast_S1x1x19_S250000x4x19_0_1_2
  slices_S4x20_S4x19_0_0 := slices_S4x20_S4x19_0_0
  bcast_S4x19_S1x4x19_1_2 := bcast_S4x19_S1x4x19_1_2
  bcast_S1x4x19_S250000x4x19_0_1_2 := bcast_S1x4x19_S250000x4x19_0_1_2
  bcast_S_S250000x4x19 := bcast_S_S250000x4x19
  reducesTo_S250000x4x19_S250000x4_d2 := reducesTo_S250000x4x19_S250000x4_d2
  slices_S4x20_S4x19_0_1 := slices_S4x20_S4x19_0_1
  dot_S4x8_S8x8_S4x8_1_0_0_1_n_n_wf := dot_S4x8_S8x8_S4x8_1_0_0_1_n_n_wf
  dot_S4x8_S8x20_S4x20_1_0_0_1_n_n_wf := dot_S4x8_S8x20_S4x20_1_0_0_1_n_n_wf
  dot_S4x250000x8_S8x8_S4x250000x8_2_0_01_1_n_n_wf := dot_S4x250000x8_S8x8_S4x250000x8_2_0_01_1_n_n_wf
  dot_S4x250000x8_S8x1_S4x250000x1_2_0_01_1_n_n_wf := dot_S4x250000x8_S8x1_S4x250000x1_2_0_01_1_n_n_wf

variable (x0 : Vec Ideal S4x8 .f32) (x1 x2 : Vec Ideal S4x250000x8 .f32) (x3 : Vec Ideal S8x8 .f32) (x4 : Vec Ideal S8 .f32) (x5 : Vec Ideal S8x20 .f32)
  (x6 : Vec Ideal S20 .f32) (x7 : Vec Ideal S8x8 .f32) (x8 : Vec Ideal S8 .f32) (x9 : Vec Ideal S8x1 .f32) (x10 : Vec Ideal S1 .f32) (x11 : Vec Ideal S8x8 .f32)
  (x12 : Vec Ideal S8 .f32) (x13 : Vec Ideal S8x1 .f32) (x14 : Vec Ideal S1 .f32) (x15 : IVec S4 32) (o : Vec Ideal S250000x4 .f32)

/-- The curve that starts each segment at its knot's own height. -/
def plainCurve : (⟨S250000x4, .f32⟩ : BufTy).Contents (Elt Ideal) :=
  addf (F := Ideal) (φ := .f32) (val_main_v86 (F := Ideal) x0 x1 x3 x4 x5 x6 x7 x8 x9 x10 x15) (val_main_v108 (F := Ideal) x0 x1 x3 x4 x5 x6 x7 x8 x9 x10 x15)

theorem post_step0 : Cert.Post_near_reference.fn (F := Ideal) x0 x1 x2 x3 x4 x5 x6 x7 x8 x9 x10 x11 x12 x13 x14 x15 o
    = Cert.Post_near_reference.fn_part1 (F := Ideal) x2 x8 x9 x10 x11 x12 x13 x14 o (val_main_v16 (F := Ideal) x0 x3 x4 x5 x6 x15) (val_main_v19 (F := Ideal)) (val_main_v20 (F := Ideal) x1 x7) := rfl

theorem post_step1 : Cert.Post_near_reference.fn_part1 (F := Ideal) x2 x8 x9 x10 x11 x12 x13 x14 o (val_main_v16 (F := Ideal) x0 x3 x4 x5 x6 x15) (val_main_v19 (F := Ideal)) (val_main_v20 (F := Ideal) x1 x7)
    = Cert.Post_near_reference.fn_part2 (F := Ideal) x13 x14 o (val_main_v16 (F := Ideal) x0 x3 x4 x5 x6 x15) (val_main_v19 (F := Ideal)) (val_main_v39 (F := Ideal) x1 x7 x8 x9 x10) (val_main_v40 (F := Ideal) x2 x11) (val_main_v42 (F := Ideal) x12) := rfl

theorem post_step2 : Cert.Post_near_reference.fn_part2 (F := Ideal) x13 x14 o (val_main_v16 (F := Ideal) x0 x3 x4 x5 x6 x15) (val_main_v19 (F := Ideal)) (val_main_v39 (F := Ideal) x1 x7 x8 x9 x10) (val_main_v40 (F := Ideal) x2 x11) (val_main_v42 (F := Ideal) x12)
    = Cert.Post_near_reference.fn_part3 (F := Ideal) o (val_main_v16 (F := Ideal) x0 x3 x4 x5 x6 x15) (val_main_v19 (F := Ideal)) (val_main_v39 (F := Ideal) x1 x7 x8 x9 x10) (val_main_v58 (F := Ideal) x2 x11 x12 x13 x14) (val_main_v63 (F := Ideal) x1 x7 x8 x9 x10) := rfl

theorem post_step3 : Cert.Post_near_reference.fn_part3 (F := Ideal) o (val_main_v16 (F := Ideal) x0 x3 x4 x5 x6 x15) (val_main_v19 (F := Ideal)) (val_main_v39 (F := Ideal) x1 x7 x8 x9 x10) (val_main_v58 (F := Ideal) x2 x11 x12 x13 x14) (val_main_v63 (F := Ideal) x1 x7 x8 x9 x10)
    = Cert.Post_near_reference.fn_part4 (F := Ideal) o (val_main_v16 (F := Ideal) x0 x3 x4 x5 x6 x15) (val_main_v39 (F := Ideal) x1 x7 x8 x9 x10) (val_main_v58 (F := Ideal) x2 x11 x12 x13 x14) (val_main_v74 (F := Ideal) x1 x7 x8 x9 x10) (val_main_v78 (F := Ideal) x1 x7 x8 x9 x10) (val_main_v80 (F := Ideal)) (val_main_cst_12 (F := Ideal)) := rfl

theorem post_step4 : Cert.Post_near_reference.fn_part4 (F := Ideal) o (val_main_v16 (F := Ideal) x0 x3 x4 x5 x6 x15) (val_main_v39 (F := Ideal) x1 x7 x8 x9 x10) (val_main_v58 (F := Ideal) x2 x11 x12 x13 x14) (val_main_v74 (F := Ideal) x1 x7 x8 x9 x10) (val_main_v78 (F := Ideal) x1 x7 x8 x9 x10) (val_main_v80 (F := Ideal)) (val_main_cst_12 (F := Ideal))
    = Cert.Post_near_reference.fn_part5 (F := Ideal) o (val_main_v58 (F := Ideal) x2 x11 x12 x13 x14) (plainCurve x0 x1 x3 x4 x5 x6 x7 x8 x9 x10 x15) := rfl

/-- The last operations: the weighted noise, the sum and the two comparisons. -/
theorem last_part (a n y : FVec Ideal S250000x4 .f32) : Cert.Post_near_reference.fn_part5 (F := Ideal) a n y
    = fun i => IntOp.andi
        (Ideal.cmp .ole (a i) (y i + Ideal.ofBits .f32 0x3DCCCCCD#32 * n i + Ideal.ofBits .f32 0x368637BD#32))
        (Ideal.cmp .ole (y i + Ideal.ofBits .f32 0x3DCCCCCD#32 * n i) ((a i : EReal) + Ideal.ofBits .f32 0x368637BD#32)) := rfl

/-- The noise, weighted. -/
theorem noise_weighted (i : S250000x4.Idx) : (val_main_v111 (F := Ideal) x2 x11 x12 x13 x14 i : EReal)
    = Ideal.ofBits .f32 0x3DCCCCCD#32 * val_main_v58 (F := Ideal) x2 x11 x12 x13 x14 i := by
  rw [val_main_v111_apply, val_main_v110_apply]
  rfl

/-- The postcondition: the result and the plain curve with the noise lie within the distance of each other. -/
theorem post_eq : Cert.Post_near_reference.fn (F := Ideal) x0 x1 x2 x3 x4 x5 x6 x7 x8 x9 x10 x11 x12 x13 x14 x15 o
    = fun i => IntOp.andi
        (Ideal.cmp .ole (o i) (plainCurve x0 x1 x3 x4 x5 x6 x7 x8 x9 x10 x15 i + val_main_v111 (F := Ideal) x2 x11 x12 x13 x14 i + Ideal.ofBits .f32 0x368637BD#32))
        (Ideal.cmp .ole (plainCurve x0 x1 x3 x4 x5 x6 x7 x8 x9 x10 x15 i + val_main_v111 (F := Ideal) x2 x11 x12 x13 x14 i) ((o i : EReal) + Ideal.ofBits .f32 0x368637BD#32)) := by
  rw [post_step0, post_step1, post_step2, post_step3, post_step4, last_part]
  funext i
  rw [noise_weighted]

end Cert.ReferenceIdeal.Hand

end
-- ==== Proof.V.Near.lean ====
/-
  The reference's result lies within `4e-6` of the curve through the knots' own heights: the two differ by the guard's
  share of the climb from the first knot, and every height is a hyperbolic tangent.
-/
module

public import proofs.«01_k».proof.Proof.V.Post
public import proofs.«01_k».proof.Proof.V.Pre

@[expose] public section

set_option maxRecDepth 16384

noncomputable section

namespace Cert.ReferenceIdeal.Hand

open Cert.ReferenceIdeal Cert.ReferenceIdeal.Gen Cert.ReferenceIdeal.Read Cert.Curve
open Idealize.ShloMosaic hiding eq_ix1 eq_ix2 eq_ix3 ix1 ix2 ix3 ix4 addf_apply mulf_apply subf_apply divf_apply maximumf_apply minimumf_apply
open ValueIdx

/-- A hyperbolic tangent is a real of magnitude at most one. -/
theorem tanh_bounded (x : EReal) : ∃ y : ℝ, Ideal.tanh x = (y : EReal) ∧ |y| ≤ 1 := by
  induction x with
  | bot => exact ⟨-1, by rfl, by norm_num⟩
  | top => exact ⟨1, by rfl, by norm_num⟩
  | coe x =>
    refine ⟨Real.tanh x, rfl, ?_⟩
    rw [Real.tanh_eq_sinh_div_cosh, abs_div, abs_of_pos (Real.cosh_pos x), div_le_one (Real.cosh_pos x), abs_le]
    constructor
    · have := Real.sinh_lt_cosh (-x)
      rw [Real.sinh_neg, Real.cosh_neg] at this
      linarith
    · exact (Real.sinh_lt_cosh x).le

/-- The knots' heights are of magnitude at most one. -/
theorem height_bounded (z0 : Vec Ideal S4x8 .f32) (u1 : Vec Ideal S8x8 .f32) (c1 : Vec Ideal S8 .f32) (u2 : Vec Ideal S8x20 .f32) (c2 : Vec Ideal S20 .f32)
    (dirs : IVec S4 32) (i : S4x20.Idx) : ∃ y : ℝ, (val_main_v16 (F := Ideal) z0 u1 c1 u2 c2 dirs i : EReal) = (y : EReal) ∧ |y| ≤ 1 := by
  have h9 : ∀ j, ∃ y : ℝ, (val_main_v9 (F := Ideal) z0 u1 c1 u2 c2 j : EReal) = (y : EReal) ∧ |y| ≤ 1 := fun j => tanh_bounded _
  have h13 : ∀ j, ∃ y : ℝ, (val_main_v13 (F := Ideal) z0 u1 c1 u2 c2 j : EReal) = (y : EReal) ∧ |y| ≤ 1 := fun j => by
    obtain ⟨j', e⟩ := sort_entry (val_main_v9 (F := Ideal) z0 u1 c1 u2 c2) j
    obtain ⟨y, hy, hb⟩ := h9 j'
    exact ⟨y, e.trans hy, hb⟩
  have h15 : ∃ y : ℝ, (val_main_v15 (F := Ideal) z0 u1 c1 u2 c2 i : EReal) = (y : EReal) ∧ |y| ≤ 1 := h13 _
  show ∃ y : ℝ, (if val_main_call1_v0 (F := Ideal) dirs i = 1 then (val_main_v13 (F := Ideal) z0 u1 c1 u2 c2 i : EReal) else (val_main_v15 (F := Ideal) z0 u1 c1 u2 c2 i : EReal)) = (y : EReal) ∧ |y| ≤ 1
  split
  · exact h13 i
  · exact h15

/-- The distance, the float nearest to `4e-6`. -/
theorem word_distance : Ideal.ofBits .f32 0x368637BD#32 = ((8796093 / 2 ^ 41 : ℝ) : EReal) := by
  simp [Ideal.ofBits, Ideal.ieee, -EReal.coe_mul]; norm_num

/-- The guard's share of a climb between two heights is less than the distance. -/
theorem climb_near (y0 y A : ℝ) (h0 : |y0| ≤ 1) (h : |y| ≤ 1) :
    |(y0 + ((y - y0) * (1 / 19) / (1 / 19 + 14073749 / 2 ^ 47) + A)) - (y + A)| ≤ 8796093 / 2 ^ 41 := by
  have e : (y0 + ((y - y0) * (1 / 19) / (1 / 19 + 14073749 / 2 ^ 47) + A)) - (y + A)
      = (y0 - y) * ((14073749 / 2 ^ 47) / (1 / 19 + 14073749 / 2 ^ 47)) := by
    field_simp; ring
  have hb : |y0 - y| ≤ 2 := (abs_sub y0 y).trans (by linarith)
  rw [e, abs_mul, abs_of_pos (by positivity : (0 : ℝ) < (14073749 / 2 ^ 47) / (1 / 19 + 14073749 / 2 ^ 47))]
  refine (mul_le_mul_of_nonneg_right hb (by positivity)).trans ?_
  norm_num

/-- Two near reals and one summand more. -/
theorem near_of_reals (a b t : ℝ) (n p q : EReal) (hp : p = (a : EReal) + n) (hq : q = (b : EReal) + n) (h : |a - b| ≤ t) :
    p ≤ q + (t : EReal) ∧ q ≤ p + (t : EReal) := by
  obtain ⟨h1, h2⟩ := abs_le.1 h
  subst hp hq
  constructor
  · rw [add_right_comm, ← EReal.coe_add]
    exact add_le_add_left (EReal.coe_le_coe_iff.2 (by linarith)) n
  · rw [add_right_comm, ← EReal.coe_add]
    exact add_le_add_left (EReal.coe_le_coe_iff.2 (by linarith)) n

theorem flags_of_near (p q t t' : EReal) (ht : t' = t) (h : p ≤ q + t ∧ q ≤ p + t) :
    IntOp.andi (Ideal.cmp .ole p (q + t')) (Ideal.cmp .ole q (p + t')) = 1#1 := by
  subst ht
  have e1 : Ideal.cmp .ole p (q + t') = 1#1 := by
    show BitVec.ofBool (decide (p ≤ q + t')) = 1#1
    rw [decide_eq_true h.1]; rfl
  have e2 : Ideal.cmp .ole q (p + t') = 1#1 := by
    show BitVec.ofBool (decide (q ≤ p + t')) = 1#1
    rw [decide_eq_true h.2]; rfl
  rw [e1, e2]; rfl

section Near

variable (x0 : Vec Ideal S4x8 .f32) (x1 x2 : Vec Ideal S4x250000x8 .f32) (x3 : Vec Ideal S8x8 .f32) (x4 : Vec Ideal S8 .f32) (x5 : Vec Ideal S8x20 .f32)
  (x6 : Vec Ideal S20 .f32) (x7 : Vec Ideal S8x8 .f32) (x8 : Vec Ideal S8 .f32) (x9 : Vec Ideal S8x1 .f32) (x10 : Vec Ideal S1 .f32) (x11 : Vec Ideal S8x8 .f32)
  (x12 : Vec Ideal S8 .f32) (x13 : Vec Ideal S8x1 .f32) (x14 : Vec Ideal S1 .f32) (x15 : IVec S4 32)

/-- The plain curve at a position: the segment formula from the knot's own height. -/
theorem plainCurve_apply (k : Fin 250000) (r : Fin 4) (u : ℝ) (hu : (val_main_v39 (F := Ideal) x1 x7 x8 x9 x10 (ix2 k r) : EReal) = (u : EReal)) (h1 : u ≤ 1)
    (Y : ℕ → ℝ) (hY : ∀ s : Fin 20, (val_main_v16 (F := Ideal) x0 x3 x4 x5 x6 x15 (ix2 r s) : EReal) = (Y s.val : EReal))
    (ε : ℝ) (hε : Ideal.ofBits .f32 0x33D6BF95#32 = (ε : EReal)) (hp : 0 < ε) :
    (plainCurve x0 x1 x3 x4 x5 x6 x7 x8 x9 x10 x15 (ix2 k r) : EReal)
      = ((Y (segment u) + (u - segment u / 19) * (Y (segment u + 1) - Y (segment u)) / (1 / 19 + ε) : ℝ) : EReal) := by
  have hx0 := start_x x1 x7 x8 x9 x10 k r u hu h1
  have hy0 := start_y x0 x3 x4 x5 x6 x15 x1 x7 x8 x9 x10 k r u hu h1 Y hY
  have h91 : (val_main_v91 (F := Ideal) x1 x7 x8 x9 x10 (ix2 k r) : EReal) = ((1 / 19 : ℝ) : EReal) := by
    refine (congrArg₂ (fun a b : EReal => a - b) (end_x x1 x7 x8 x9 x10 k r u hu h1) hx0).trans ((EReal.coe_sub _ _).symm.trans ?_)
    exact congrArg (fun x : ℝ => (x : EReal)) (by ring)
  have h99 : (val_main_v99 (F := Ideal) x1 x7 x8 x9 x10 (ix2 k r) : EReal) = ((1 / 19 + ε : ℝ) : EReal) :=
    (congrArg₂ (fun a b : EReal => a + b) h91 ((val_main_v98_apply (F := Ideal) (ix2 k r)).trans hε)).trans (EReal.coe_add _ _).symm
  have hne : (1 / 19 + ε : ℝ) ≠ 0 := by positivity
  have h103 : (val_main_v103 (F := Ideal) x1 x7 x8 x9 x10 (ix2 k r) : EReal) = ((u - segment u / 19 : ℝ) : EReal) :=
    (congrArg₂ (fun a b : EReal => a - b) hu hx0).trans (EReal.coe_sub _ _).symm
  have h104 : (val_main_v104 (F := Ideal) x0 x1 x3 x4 x5 x6 x7 x8 x9 x10 x15 (ix2 k r) : EReal) = ((Y (segment u + 1) - Y (segment u) : ℝ) : EReal) :=
    (congrArg₂ (fun a b : EReal => a - b) (end_y x0 x3 x4 x5 x6 x15 x1 x7 x8 x9 x10 k r u hu h1 Y hY) hy0).trans (EReal.coe_sub _ _).symm
  have h105 : (val_main_v105 (F := Ideal) x0 x1 x3 x4 x5 x6 x7 x8 x9 x10 x15 (ix2 k r) : EReal) = ((u - segment u / 19) * (Y (segment u + 1) - Y (segment u)) : ℝ) :=
    (congrArg₂ (fun a b : EReal => a * b) h103 h104).trans (EReal.coe_mul _ _).symm
  have h108 : (val_main_v108 (F := Ideal) x0 x1 x3 x4 x5 x6 x7 x8 x9 x10 x15 (ix2 k r) : EReal)
      = ((u - segment u / 19) * (Y (segment u + 1) - Y (segment u)) / (1 / 19 + ε) : ℝ) := by
    have h107 : (val_main_v107 (F := Ideal) x1 x7 x8 x9 x10 (ix2 k r) : EReal) = ((1 / 19 + ε : ℝ) : EReal) := h99
    rw [val_main_v108_apply, h105, h107]; exact div_real ((u - segment u / 19) * (Y (segment u + 1) - Y (segment u))) (1 / 19 + ε) hne
  exact (congrArg₂ (fun a b : EReal => a + b) hy0 h108).trans (EReal.coe_add _ _).symm

/-- The reference's result and the plain curve with the noise are near, where the row varies. -/
theorem near_entry (k : Fin 250000) (r : Fin 4)
    (hvary : ∃ k k', (val_main_v30 (F := Ideal) x1 x7 x8 x9 x10 (ix2 r k) : EReal) < (val_main_v30 (F := Ideal) x1 x7 x8 x9 x10 (ix2 r k') : EReal)) :
    (val_main_v112 (F := Ideal) x0 x1 x2 x3 x4 x5 x6 x7 x8 x9 x10 x11 x12 x13 x14 x15 (ix2 k r) : EReal)
        ≤ (plainCurve x0 x1 x3 x4 x5 x6 x7 x8 x9 x10 x15 (ix2 k r) : EReal) + (val_main_v111 (F := Ideal) x2 x11 x12 x13 x14 (ix2 k r) : EReal) + ((8796093 / 2 ^ 41 : ℝ) : EReal)
      ∧ (plainCurve x0 x1 x3 x4 x5 x6 x7 x8 x9 x10 x15 (ix2 k r) : EReal) + (val_main_v111 (F := Ideal) x2 x11 x12 x13 x14 (ix2 k r) : EReal)
        ≤ (val_main_v112 (F := Ideal) x0 x1 x2 x3 x4 x5 x6 x7 x8 x9 x10 x11 x12 x13 x14 x15 (ix2 k r) : EReal) + ((8796093 / 2 ^ 41 : ℝ) : EReal) := by
  have hXr : ∀ k, ∃ y : ℝ, (val_main_v30 (F := Ideal) x1 x7 x8 x9 x10 (ix2 r k) : EReal) = (y : EReal) := fun k => by
    rw [stream_apply]
    exact network_isReal _ _ _ _ _
  choose X hX using hXr
  have hYr : ∀ s : ℕ, ∃ y : ℝ, (val_main_v16 (F := Ideal) x0 x3 x4 x5 x6 x15 (ix2 r (Fin.ofNat 20 s)) : EReal) = (y : EReal) ∧ |y| ≤ 1 := fun s =>
    height_bounded _ _ _ _ _ _ _
  choose Y hY hYb using hYr
  have hYs : ∀ s : Fin 20, (val_main_v16 (F := Ideal) x0 x3 x4 x5 x6 x15 (ix2 r s) : EReal) = (Y s.val : EReal) := fun s => by
    rw [← hY s.val, show Fin.ofNat 20 s.val = s from Fin.ext (Nat.mod_eq_of_lt s.isLt)]
  obtain ⟨ka, ha⟩ := Finite.exists_min X
  obtain ⟨kb, hb⟩ := Finite.exists_max X
  have hmn : ∀ y : EReal, y ≤ (X ka : EReal) ↔ ∀ k, y ≤ (X k : EReal) := fun y =>
    ⟨fun h k => h.trans (EReal.coe_le_coe_iff.2 (ha k)), fun h => h ka⟩
  have hmx : ∀ y : EReal, (X kb : EReal) ≤ y ↔ ∀ k, (X k : EReal) ≤ y := fun y =>
    ⟨fun h k => (EReal.coe_le_coe_iff.2 (hb k)).trans h, fun h => h kb⟩
  have hlt : X ka < X kb := by
    obtain ⟨k1, k2, h12⟩ := hvary
    rw [hX, hX, EReal.coe_lt_coe_iff] at h12
    exact ((ha k1).trans_lt h12).trans_le (hb k2)
  have hd : 0 < X kb - X ka := sub_pos.2 hlt
  have hu := position_apply x1 x7 x8 x9 x10 X r hX (X ka) (X kb) hmn hmx hlt k
  have hu1 : (X k - X ka) / (X kb - X ka) ≤ 1 := (div_le_one hd).2 (by linarith [hb k])
  have hcurve := curve_apply x0 x3 x4 x5 x6 x15 x1 x7 x8 x9 x10 k r _ hu hu1 Y hYs _ word_guard (by positivity)
  have hplain := plainCurve_apply x0 x1 x3 x4 x5 x6 x7 x8 x9 x10 x15 k r _ hu hu1 Y hYs _ word_guard (by positivity)
  exact near_of_reals _ _ _ _ _ _ (congrArg (fun a : EReal => a + (val_main_v111 (F := Ideal) x2 x11 x12 x13 x14 (ix2 k r) : EReal)) hcurve)
    (congrArg (fun a : EReal => a + (val_main_v111 (F := Ideal) x2 x11 x12 x13 x14 (ix2 k r) : EReal)) hplain)
    (climb_near _ _ _ (hYb 0) (hYb _))

/-- The postcondition holds of the reference's result, where every row varies. -/
theorem post_holds
    (hvary : ∀ r : Fin 4, ∃ k k', (val_main_v30 (F := Ideal) x1 x7 x8 x9 x10 (ix2 r k) : EReal) < (val_main_v30 (F := Ideal) x1 x7 x8 x9 x10 (ix2 r k') : EReal)) :
    Cert.Post_near_reference.fn (F := Ideal) x0 x1 x2 x3 x4 x5 x6 x7 x8 x9 x10 x11 x12 x13 x14 x15
      (val_main_v112 (F := Ideal) x0 x1 x2 x3 x4 x5 x6 x7 x8 x9 x10 x11 x12 x13 x14 x15) = fun _ => 1#1 := by
  rw [post_eq]
  funext j
  have e : j = ix2 (j 0 : Fin 250000) (j 1 : Fin 4) := funext fun a => match a with | ⟨0, _⟩ => rfl | ⟨1, _⟩ => rfl
  rw [e]
  exact flags_of_near _ _ _ _ word_distance (near_entry x0 x1 x2 x3 x4 x5 x6 x7 x8 x9 x10 x11 x12 x13 x14 x15 _ _ (hvary _))

end Near

end Cert.ReferenceIdeal.Hand

end
-- ==== Proof.lean ====
/-
  The proof of this directory's certificate: its conjuncts, each from the module that proves it.
-/
module

public import proofs.«01_k».proof.Defs
public import proofs.«01_k».proof.Proof.K.Body
public import proofs.«01_k».proof.Proof.KI.Body
public import proofs.«01_k».proof.Proof.Gen.ReferenceIdeal.Run
public import proofs.«01_k».proof.Proof.Gen.ReferenceIdeal.Read
public import proofs.«01_k».proof.Proof.V.Pre
public import proofs.«01_k».proof.Proof.V.Final
public import proofs.«01_k».proof.Proof.V.Near

@[expose] public section

noncomputable section

namespace Cert.Proof

open Idealize.ShloMosaic

/-- The kernel's run leaves its arguments and counters as they were. -/
theorem frame_kernel : Cert.quiescent_Kernel := fun m ρ _ => Cert.Kernel.Hand.frame m ρ

/-- The idealized kernel's run leaves its arguments and counters as they were. -/
theorem frame_kernelIdeal : Cert.quiescent_KernelIdeal := fun m ρ _ => Cert.KernelIdeal.Hand.frame m ρ

/-- The reference's run leaves its arguments as they were; it has no counters. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Each knot's literal is the nearest word of the fraction it is named. -/
theorem preserves : Cert.preserves_Kernel_KernelIdeal :=
  ⟨IdealRules.named_const.statement Cert.KernelIdeal.κ "knot1" .f32 0x3D579436#32 _ rfl,
   IdealRules.named_const.statement Cert.KernelIdeal.κ "knot2" .f32 0x3DD79436#32 _ rfl,
   IdealRules.named_const.statement Cert.KernelIdeal.κ "knot3" .f32 0x3E21AF28#32 _ rfl,
   IdealRules.named_const.statement Cert.KernelIdeal.κ "knot4" .f32 0x3E579436#32 _ rfl,
   IdealRules.named_const.statement Cert.KernelIdeal.κ "knot5" .f32 0x3E86BCA2#32 _ rfl,
   IdealRules.named_const.statement Cert.KernelIdeal.κ "knot6" .f32 0x3EA1AF28#32 _ rfl,
   IdealRules.named_const.statement Cert.KernelIdeal.κ "knot7" .f32 0x3EBCA1AF#32 _ rfl,
   IdealRules.named_const.statement Cert.KernelIdeal.κ "knot8" .f32 0x3ED79436#32 _ rfl,
   IdealRules.named_const.statement Cert.KernelIdeal.κ "knot9" .f32 0x3EF286BD#32 _ rfl,
   IdealRules.named_const.statement Cert.KernelIdeal.κ "knot10" .f32 0x3F06BCA2#32 _ rfl,
   IdealRules.named_const.statement Cert.KernelIdeal.κ "knot11" .f32 0x3F1435E5#32 _ rfl,
   IdealRules.named_const.statement Cert.KernelIdeal.κ "knot12" .f32 0x3F21AF28#32 _ rfl,
   IdealRules.named_const.statement Cert.KernelIdeal.κ "knot13" .f32 0x3F2F286C#32 _ rfl,
   IdealRules.named_const.statement Cert.KernelIdeal.κ "knot14" .f32 0x3F3CA1AF#32 _ rfl,
   IdealRules.named_const.statement Cert.KernelIdeal.κ "knot15" .f32 0x3F4A1AF3#32 _ rfl,
   IdealRules.named_const.statement Cert.KernelIdeal.κ "knot16" .f32 0x3F579436#32 _ rfl,
   IdealRules.named_const.statement Cert.KernelIdeal.κ "knot17" .f32 0x3F650D79#32 _ rfl,
   IdealRules.named_const.statement Cert.KernelIdeal.κ "knot18" .f32 0x3F7286BD#32 _ rfl⟩

/-- Under the precondition the two programs end with equal results. -/
theorem algebraic : Cert.algebraic_KernelIdeal_ReferenceIdeal_pre_rows_vary := by
  intro m g m' g' hpre hargs
  have hvary : ∀ c, ∀ r : Fin 4, ∃ k k', Cert.KernelIdeal.Hand.xAt m c r k < Cert.KernelIdeal.Hand.xAt m c r k' := fun c r => by
    obtain ⟨k, k', h⟩ := Cert.ReferenceIdeal.Hand.vary_of_pre _ _ _ _ _ _ _ _ _ _ _ _ _ _ _ _ (hpre c) r
    rw [Cert.ReferenceIdeal.Hand.stream_apply, Cert.ReferenceIdeal.Hand.stream_apply] at h
    exact ⟨k, k', h⟩
  refine ⟨fun c => Cert.KernelIdeal.Hand.refResult m c, ?_, ?_⟩
  · exact (θ_run Cert.KernelIdeal.defs _ _).mono
      (fun r h c => ⟨(h.1 c).trans (Cert.KernelIdeal.Hand.result_eq m c (hvary c)), h.2 c⟩)
      (θ_run_and (Cert.KernelIdeal.Hand.run_out m g)
        (Cert.KernelIdeal.Gen.frame_of m g (Cert.KernelIdeal.Hand.dats m) (Cert.KernelIdeal.Hand.A_eq m) (Cert.KernelIdeal.Hand.run_main m g)))
  · refine (θ_run Cert.ReferenceIdeal.defs _ _).mono (fun r h c => ⟨(h c).1.trans ?_, (h c).2⟩) (Cert.ReferenceIdeal.Value.run (F := Ideal) m' g')
    refine (Cert.ReferenceIdeal.Read.val_main_v112_eq (F := Ideal) (StableHlo.launchContents m' c)).trans ?_
    obtain ⟨h0, h1, h2, h3, h4, h5, h6, h7, h8, h9, h10, h11, h12, h13, h14, h15⟩ := hargs c
    show Cert.ReferenceIdeal.Read.val_main_v112 (F := Ideal) (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3)) (m' ((c.tc : Thread _ _).loc Cert.ReferenceIdeal.main_arg4))
      (m' ((c.tc : Thread _ _).loc Cert.ReferenceIdeal.main_arg5)) (m' ((c.tc : Thread _ _).loc Cert.ReferenceIdeal.main_arg6)) (m' ((c.tc : Thread _ _).loc Cert.ReferenceIdeal.main_arg7))
      (m' ((c.tc : Thread _ _).loc Cert.ReferenceIdeal.main_arg8)) (m' ((c.tc : Thread _ _).loc Cert.ReferenceIdeal.main_arg9)) (m' ((c.tc : Thread _ _).loc Cert.ReferenceIdeal.main_arg10))
      (m' ((c.tc : Thread _ _).loc Cert.ReferenceIdeal.main_arg11)) (m' ((c.tc : Thread _ _).loc Cert.ReferenceIdeal.main_arg12)) (m' ((c.tc : Thread _ _).loc Cert.ReferenceIdeal.main_arg13))
      (m' ((c.tc : Thread _ _).loc Cert.ReferenceIdeal.main_arg14)) (m' ((c.tc : Thread _ _).loc Cert.ReferenceIdeal.main_arg15)) = Cert.KernelIdeal.Hand.refResult m c
    rw [h0, h1, h2, h3, h4, h5, h6, h7, h8, h9, h10, h11, h12, h13, h14, h15]

/-- Under the precondition the kernel's result is near the formula with the knots' own heights. -/
theorem near : Cert.holds_KernelIdeal_near_reference_pre_rows_vary := by
  intro m g hpre
  have hvary : ∀ c, ∀ r : Fin 4, ∃ k k', Cert.KernelIdeal.Hand.xAt m c r k < Cert.KernelIdeal.Hand.xAt m c r k' := fun c r => by
    obtain ⟨k, k', h⟩ := Cert.ReferenceIdeal.Hand.vary_of_pre _ _ _ _ _ _ _ _ _ _ _ _ _ _ _ _ (hpre c) r
    rw [Cert.ReferenceIdeal.Hand.stream_apply, Cert.ReferenceIdeal.Hand.stream_apply] at h
    exact ⟨k, k', h⟩
  refine (θ_run Cert.KernelIdeal.defs _ _).mono (fun r h => ?_)
    (θ_run_and (Cert.KernelIdeal.Hand.run_out m g)
      (Cert.KernelIdeal.Gen.frame_of m g (Cert.KernelIdeal.Hand.dats m) (Cert.KernelIdeal.Hand.A_eq m) (Cert.KernelIdeal.Hand.run_main m g)))
  intro c
  obtain ⟨hout, h0, h1, h2, h3, h4, h5, h6, h7, h8, h9, h10, h11, h12, h13, h14, h15⟩ := And.intro (h.1 c) (h.2 c)
  refine ⟨h0, h1, h2, h3, h4, h5, h6, h7, h8, h9, h10, h11, h12, h13, h14, h15, ?_⟩
  refine (congrArg (Cert.Post_near_reference.fn (F := Ideal) _ _ _ _ _ _ _ _ _ _ _ _ _ _ _ _) (hout.trans (Cert.KernelIdeal.Hand.result_eq m c (hvary c)))).trans ?_
  exact Cert.ReferenceIdeal.Hand.post_holds _ _ _ _ _ _ _ _ _ _ _ _ _ _ _ _
    (fun q => Cert.ReferenceIdeal.Hand.vary_of_pre _ _ _ _ _ _ _ _ _ _ _ _ _ _ _ _ (hpre c) q)

/-- The certificate's claim: its conjuncts together. -/
theorem claim : Cert.Claim :=
  ⟨Cert.Kernel.Gen.facts, Cert.KernelIdeal.Gen.facts, Cert.ReferenceIdeal.Gen.facts, Cert.ReferenceIdeal.Hand.preFacts, Cert.ReferenceIdeal.Hand.postFacts,
    frame_kernel, frame_kernelIdeal, fun m ρ _ => frame_kernelIdeal m ρ trivial, frame_referenceIdeal, fun m ρ _ => frame_referenceIdeal m ρ trivial,
    preserves, algebraic, near⟩

end Cert.Proof

end
